-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x512x2880 : Shape := ⟨3, ![2, 512, 2880]⟩
abbrev S2x512x7680 : Shape := ⟨3, ![2, 512, 7680]⟩
abbrev S7680x2880 : Shape := ⟨2, ![7680, 2880]⟩
abbrev S7680x90 : Shape := ⟨2, ![7680, 90]⟩
abbrev S_ : Shape := ⟨0, ![]⟩
abbrev S2880 : Shape := ⟨1, ![2880]⟩
abbrev S7680 : Shape := ⟨1, ![7680]⟩

class Facts : Prop where
  bitsLt_bf16_f32 : FTy.bits .bf16 < FTy.bits .f32
  reducesTo_S2x512x2880_S2880_d0_1 : S2x512x2880.ReducesTo [0, 1] S2880
  h_S_ : 0 < S_.numel
  bcast_S_S2880 : S_.BroadcastsInDim S2880 (![] : Fin 0 → Fin S2880.rank)
  reducesTo_S2880_S_d0 : S2880.ReducesTo [0] S_
  reducesTo_S2x512x7680_S7680_d0_1 : S2x512x7680.ReducesTo [0, 1] S7680
  bcast_S_S7680 : S_.BroadcastsInDim S7680 (![] : Fin 0 → Fin S7680.rank)
  reducesTo_S7680_S_d0 : S7680.ReducesTo [0] S_
  bcast_S_S7680x90 : S_.BroadcastsInDim S7680x90 (![] : Fin 0 → Fin S7680x90.rank)
  reducesTo_S7680x90_S_d0_1 : S7680x90.ReducesTo [0, 1] S_

variable [Facts]

def fn_part1 {F : FTy → Type} [FloatOps F] (main_arg3 : FVec F S7680x90 .f32) (main_v13 : IVec S_ 1) (main_v16 : FVec F S7680 .f32) : IVec S_ 1 :=
  let main_cst_5 : FVec F S_ .f32 := constant S_ .f32 0x00000000#32
  let main_v17 : FVec F S7680 .f32 := broadcastInDim S7680 ![] bcast_S_S7680 main_cst_5
  let main_v18 : IVec S7680 1 := cmpf .oeq main_v16 main_v17
  let main_cst_6 : FVec F S_ .f32 := constant S_ .f32 0x37924925#32
  let main_v19 : FVec F S7680 .f32 := broadcastInDim S7680 ![] bcast_S_S7680 main_cst_6
  let main_v20 : FVec F S7680 .f32 := mulf main_v16 main_v19
  let main_cst_7 : FVec F S_ .f32 := constant S_ .f32 0x00800000#32
  let main_v21 : FVec F S7680 .f32 := broadcastInDim S7680 ![] bcast_S_S7680 main_cst_7
  let main_v22 : IVec S7680 1 := cmpf .oge main_v20 main_v21
  let main_cst_8 : FVec F S_ .f32 := constant S_ .f32 0x7F7F0000#32
  let main_v23 : FVec F S7680 .f32 := broadcastInDim S7680 ![] bcast_S_S7680 main_cst_8
  let main_v24 : IVec S7680 1 := cmpf .ole main_v16 main_v23
  let main_v25 : IVec S7680 1 := andi main_v22 main_v24
  let main_v26 : IVec S7680 1 := ori main_v18 main_v25
  let main_c_9 : IVec S_ 1 := constantI S_ 1 1#1
  let main_v27 : IVec S_ 1 := (fun x v => Host.reduce IntOp.andi x v reducesTo_S7680_S_d0 h_S_) main_v26 main_c_9
  let main_v28 : IVec S_ 1 := andi main_v13 main_v27
  let main_cst_10 : FVec F S_ .f32 := constant S_ .f32 0x00000000#32
  let main_v29 : FVec F S7680x90 .f32 := broadcastInDim S7680x90 ![] bcast_S_S7680x90 main_cst_10
  let main_v30 : IVec S7680x90 1 := cmpf .une main_arg3 main_v29
  let main_c_11 : IVec S_ 1 := constantI S_ 1 1#1
  let main_v31 : IVec S_ 1 := (fun x v => Host.reduce IntOp.andi x v reducesTo_S7680x90_S_d0_1 h_S_) main_v30 main_c_11
  let main_v32 : IVec S_ 1 := andi main_v28 main_v31
  main_v32

def fn {F : FTy → Type} [FloatOps F] (main_arg0 : FVec F S2x512x2880 .bf16) (main_arg1 : FVec F S2x512x7680 .bf16) (main_arg2 : FVec F S7680x2880 .f32) (main_arg3 : FVec F S7680x90 .f32) : IVec S_ 1 :=
  let main_v0 : FVec F S2x512x2880 .f32 := (extf .f32 · bitsLt_bf16_f32) main_arg0
  let main_v1 : FVec F S2x512x2880 .f32 := Host.absf main_v0
  let main_cst : FVec F S_ .f32 := constant S_ .f32 0xFF800000#32
  let main_v2 : FVec F S2880 .f32 := (fun x v => Host.reduce FloatOps.maximumf x v reducesTo_S2x512x2880_S2880_d0_1 h_S_) main_v1 main_cst
  let main_cst_0 : FVec F S_ .f32 := constant S_ .f32 0x00000000#32
  let main_v3 : FVec F S2880 .f32 := broadcastInDim S2880 ![] bcast_S_S2880 main_cst_0
  let main_v4 : IVec S2880 1 := cmpf .oeq main_v2 main_v3
  let main_cst_1 : FVec F S_ .f32 := constant S_ .f32 0x3B124925#32
  let main_v5 : FVec F S2880 .f32 := broadcastInDim S2880 ![] bcast_S_S2880 main_cst_1
  let main_v6 : FVec F S2880 .f32 := mulf main_v2 main_v5
  let main_cst_2 : FVec F S_ .f32 := constant S_ .f32 0x00800000#32
  let main_v7 : FVec F S2880 .f32 := broadcastInDim S2880 ![] bcast_S_S2880 main_cst_2
  let main_v8 : IVec S2880 1 := cmpf .oge main_v6 main_v7
  let main_cst_3 : FVec F S_ .f32 := constant S_ .f32 0x7F7F0000#32
  let main_v9 : FVec F S2880 .f32 := broadcastInDim S2880 ![] bcast_S_S2880 main_cst_3
  let main_v10 : IVec S2880 1 := cmpf .ole main_v2 main_v9
  let main_v11 : IVec S2880 1 := andi main_v8 main_v10
  let main_v12 : IVec S2880 1 := ori main_v4 main_v11
  let main_c : IVec S_ 1 := constantI S_ 1 1#1
  let main_v13 : IVec S_ 1 := (fun x v => Host.reduce IntOp.andi x v reducesTo_S2880_S_d0 h_S_) main_v12 main_c
  let main_v14 : FVec F S2x512x7680 .f32 := (extf .f32 · bitsLt_bf16_f32) main_arg1
  let main_v15 : FVec F S2x512x7680 .f32 := Host.absf main_v14
  let main_cst_4 : FVec F S_ .f32 := constant S_ .f32 0xFF800000#32
  let main_v16 : FVec F S7680 .f32 := (fun x v => Host.reduce FloatOps.maximumf x v reducesTo_S2x512x7680_S7680_d0_1 h_S_) main_v15 main_cst_4
  fn_part1 (F := F) main_arg3 main_v13 main_v16
-- ==== Kernel.lean ====
abbrev S2x512x2880 : Shape := ⟨3, ![2, 512, 2880]⟩
abbrev S2x512x7680 : Shape := ⟨3, ![2, 512, 7680]⟩
abbrev S7680x2880 : Shape := ⟨2, ![7680, 2880]⟩
abbrev S7680x90 : Shape := ⟨2, ![7680, 90]⟩
abbrev S1024x2880 : Shape := ⟨2, ![1024, 2880]⟩
abbrev S1024x7680 : Shape := ⟨2, ![1024, 7680]⟩
abbrev S1x2880 : Shape := ⟨2, ![1, 2880]⟩
abbrev S1x7680 : Shape := ⟨2, ![1, 7680]⟩
abbrev S7680x1440 : Shape := ⟨2, ![7680, 1440]⟩
abbrev S1024x256 : Shape := ⟨2, ![1024, 256]⟩
abbrev S256x2880 : Shape := ⟨2, ![256, 2880]⟩
abbrev S256x90 : Shape := ⟨2, ![256, 90]⟩
abbrev S1x256 : Shape := ⟨2, ![1, 256]⟩
abbrev S256x1440 : Shape := ⟨2, ![256, 1440]⟩
abbrev S256x1024 : Shape := ⟨2, ![256, 1024]⟩
abbrev S256x128 : Shape := ⟨2, ![256, 128]⟩
abbrev S2x768x128 : Shape := ⟨3, ![2, 768, 128]⟩
abbrev S8x128 : Shape := ⟨2, ![8, 128]⟩
abbrev S256 : Shape := ⟨1, ![256]⟩
abbrev S256x256 : Shape := ⟨2, ![256, 256]⟩
abbrev S1024x64 : Shape := ⟨2, ![1024, 64]⟩
abbrev S64 : Shape := ⟨1, ![64]⟩
abbrev S1x64 : Shape := ⟨2, ![1, 64]⟩
abbrev S256x64 : Shape := ⟨2, ![256, 64]⟩
abbrev S128x256 : Shape := ⟨2, ![128, 256]⟩
abbrev S128x128 : Shape := ⟨2, ![128, 128]⟩
abbrev S128x128x1 : Shape := ⟨3, ![128, 128, 1]⟩
abbrev S1x128 : Shape := ⟨2, ![1, 128]⟩
abbrev S4x4x8x128 : Shape := ⟨4, ![4, 4, 8, 128]⟩
abbrev S4x8x128 : Shape := ⟨3, ![4, 8, 128]⟩
abbrev S32x128 : Shape := ⟨2, ![32, 128]⟩
abbrev S1x32x128 : Shape := ⟨3, ![1, 32, 128]⟩
abbrev S8x128x1 : Shape := ⟨3, ![8, 128, 1]⟩
abbrev S128x64 : Shape := ⟨2, ![128, 64]⟩
abbrev S64x128 : Shape := ⟨2, ![64, 128]⟩
abbrev S2x4x8x128 : Shape := ⟨4, ![2, 4, 8, 128]⟩
abbrev S2x8x128 : Shape := ⟨3, ![2, 8, 128]⟩
abbrev S16x128 : Shape := ⟨2, ![16, 128]⟩
abbrev S1x16x128 : Shape := ⟨3, ![1, 16, 128]⟩
abbrev S32x64 : Shape := ⟨2, ![32, 64]⟩
abbrev S8x64 : Shape := ⟨2, ![8, 64]⟩
abbrev S32x32 : Shape := ⟨2, ![32, 32]⟩
abbrev S1x8x128 : Shape := ⟨3, ![1, 8, 128]⟩
abbrev S96x128 : Shape := ⟨2, ![96, 128]⟩
abbrev S128x96 : Shape := ⟨2, ![128, 96]⟩
abbrev S128x90 : Shape := ⟨2, ![128, 90]⟩

abbrev nBuf : Space → Nat
  | .hbm => 13
  | .vmem => 24
  | .smem => 0
  | _ => 0

abbrev bufTy : (tb : Table) → Fin (tcTables nBuf tb) → BufTy
  | .hbm, ⟨0, _⟩ => ⟨S2x512x2880, .bf16⟩
  | .hbm, ⟨1, _⟩ => ⟨S2x512x7680, .bf16⟩
  | .hbm, ⟨2, _⟩ => ⟨S7680x2880, .f32⟩
  | .hbm, ⟨3, _⟩ => ⟨S7680x90, .f32⟩
  | .hbm, ⟨4, _⟩ => ⟨S1024x2880, .bf16⟩
  | .hbm, ⟨5, _⟩ => ⟨S1024x7680, .bf16⟩
  | .hbm, ⟨6, _⟩ => ⟨S7680x2880, .f32⟩
  | .hbm, ⟨7, _⟩ => ⟨S7680x90, .f32⟩
  | .hbm, ⟨8, _⟩ => ⟨S1024x2880, .fp8e4m3⟩
  | .hbm, ⟨9, _⟩ => ⟨S1x2880, .f32⟩
  | .hbm, ⟨10, _⟩ => ⟨S1024x7680, .fp8e5m2⟩
  | .hbm, ⟨11, _⟩ => ⟨S1x7680, .f32⟩
  | .hbm, ⟨12, _⟩ => ⟨S7680x1440, .i8⟩
  | .local _ .vmem, ⟨0, _⟩ => ⟨S1024x2880, .bf16⟩
  | .local _ .vmem, ⟨1, _⟩ => ⟨S1024x256, .bf16⟩
  | .local _ .vmem, ⟨2, _⟩ => ⟨S1024x256, .bf16⟩
  | .local _ .vmem, ⟨3, _⟩ => ⟨S256x2880, .f32⟩
  | .local _ .vmem, ⟨4, _⟩ => ⟨S256x2880, .f32⟩
  | .local _ .vmem, ⟨5, _⟩ => ⟨S256x90, .f32⟩
  | .local _ .vmem, ⟨6, _⟩ => ⟨S256x90, .f32⟩
  | .local _ .vmem, ⟨7, _⟩ => ⟨S256x2880, .f32⟩
  | .local _ .vmem, ⟨8, _⟩ => ⟨S256x2880, .f32⟩
  | .local _ .vmem, ⟨9, _⟩ => ⟨S256x90, .f32⟩
  | .local _ .vmem, ⟨10, _⟩ => ⟨S256x90, .f32⟩
  | .local _ .vmem, ⟨11, _⟩ => ⟨S1024x2880, .fp8e4m3⟩
  | .local _ .vmem, ⟨12, _⟩ => ⟨S1x2880, .f32⟩
  | .local _ .vmem, ⟨13, _⟩ => ⟨S1024x256, .fp8e5m2⟩
  | .local _ .vmem, ⟨14, _⟩ => ⟨S1024x256, .fp8e5m2⟩
  | .local _ .vmem, ⟨15, _⟩ => ⟨S1x256, .f32⟩
  | .local _ .vmem, ⟨16, _⟩ => ⟨S1x256, .f32⟩
  | .local _ .vmem, ⟨17, _⟩ => ⟨S256x1440, .i8⟩
  | .local _ .vmem, ⟨18, _⟩ => ⟨S256x1440, .i8⟩
  | .local _ .vmem, ⟨19, _⟩ => ⟨S256x1024, .fp8e5m2⟩
  | .local _ .vmem, ⟨20, _⟩ => ⟨S256x128, .f32⟩
  | .local _ .vmem, ⟨21, _⟩ => ⟨S256x128, .f32⟩
  | .local _ .vmem, ⟨22, _⟩ => ⟨S2x768x128, .f32⟩
  | .local _ .vmem, ⟨23, _⟩ => ⟨S8x128, .i32⟩
  | _, _ => ⟨S2x512x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x90 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2880 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2880 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1440 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x512x2880 : Shape := ⟨3, ![2, 512, 2880]⟩
abbrev S2x512x7680 : Shape := ⟨3, ![2, 512, 7680]⟩
abbrev S7680x2880 : Shape := ⟨2, ![7680, 2880]⟩
abbrev S7680x90 : Shape := ⟨2, ![7680, 90]⟩
abbrev S1024x2880 : Shape := ⟨2, ![1024, 2880]⟩
abbrev S1024x7680 : Shape := ⟨2, ![1024, 7680]⟩
abbrev S1x2880 : Shape := ⟨2, ![1, 2880]⟩
abbrev S1x7680 : Shape := ⟨2, ![1, 7680]⟩
abbrev S7680x1440 : Shape := ⟨2, ![7680, 1440]⟩
abbrev S2880 : Shape := ⟨1, ![2880]⟩
abbrev S256x2880 : Shape := ⟨2, ![256, 2880]⟩
abbrev S7680 : Shape := ⟨1, ![7680]⟩
abbrev S256x7680 : Shape := ⟨2, ![256, 7680]⟩
abbrev S7680x1 : Shape := ⟨2, ![7680, 1]⟩
abbrev S7680x90x32 : Shape := ⟨3, ![7680, 90, 32]⟩
abbrev S7680x90x1 : Shape := ⟨3, ![7680, 90, 1]⟩
abbrev S7680x1440x2 : Shape := ⟨3, ![7680, 1440, 2]⟩
abbrev S7680x1440x1 : Shape := ⟨3, ![7680, 1440, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x512x2880, .bf16⟩
  | .hbm, ⟨1, _⟩ => ⟨S2x512x7680, .bf16⟩
  | .hbm, ⟨2, _⟩ => ⟨S7680x2880, .f32⟩
  | .hbm, ⟨3, _⟩ => ⟨S7680x90, .f32⟩
  | .hbm, ⟨4, _⟩ => ⟨S1024x2880, .bf16⟩
  | .hbm, ⟨5, _⟩ => ⟨S1024x7680, .bf16⟩
  | .hbm, ⟨6, _⟩ => ⟨S7680x2880, .f32⟩
  | .hbm, ⟨7, _⟩ => ⟨S7680x90, .f32⟩
  | .hbm, ⟨8, _⟩ => ⟨S1024x2880, .fp8e4m3⟩
  | .hbm, ⟨9, _⟩ => ⟨S1x2880, .f32⟩
  | .hbm, ⟨10, _⟩ => ⟨S1024x7680, .fp8e5m2⟩
  | .hbm, ⟨11, _⟩ => ⟨S1x7680, .f32⟩
  | .hbm, ⟨12, _⟩ => ⟨S7680x1440, .i8⟩
  | .local _ .vmem, ⟨0, _⟩ => ⟨S1024x2880, .bf16⟩
  | .local _ .vmem, ⟨1, _⟩ => ⟨S1024x7680, .bf16⟩
  | .local _ .vmem, ⟨2, _⟩ => ⟨S7680x2880, .f32⟩
  | .local _ .vmem, ⟨3, _⟩ => ⟨S7680x90, .f32⟩
  | .local _ .vmem, ⟨4, _⟩ => ⟨S7680x2880, .f32⟩
  | .local _ .vmem, ⟨5, _⟩ => ⟨S7680x90, .f32⟩
  | .local _ .vmem, ⟨6, _⟩ => ⟨S1024x2880, .fp8e4m3⟩
  | .local _ .vmem, ⟨7, _⟩ => ⟨S1x2880, .f32⟩
  | .local _ .vmem, ⟨8, _⟩ => ⟨S1024x7680, .fp8e5m2⟩
  | .local _ .vmem, ⟨9, _⟩ => ⟨S1x7680, .f32⟩
  | .local _ .vmem, ⟨10, _⟩ => ⟨S7680x1440, .i8⟩
  | _, _ => ⟨S2x512x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x90 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2880 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2880 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x7680 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x7680 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x1440 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRuns.lean ====
/- What the two runs of the kernel's body share, for any reading of the floats: the condition of the branch in
   closed form, the staging and scratch memrefs, and the scratch as the region hands it over. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2880 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x90 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2880 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x90 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2880 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2880 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1440 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x1024 .fp8e5m2 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S2x768x128 .f32 := Memref.whole cc0_scratch3
abbrev scM0_4 : Memref sig .tc .vmem S8x128 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KernelRunA.lean ====
/- The kernel's body at the first point, run for any reading of the floats, nothing said of what it computes. -/
module

public import proofs.«01_k».proof.Proof.KernelRuns

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large)
set_option maxHeartbeats 5632000 in
/-- The body run at the first point, where the branch is taken: the inputs are left as they were, the outputs and the scratch
    at some contents. The witness is what the stores into the scratch of reciprocals leave there. -/
noncomputable def kernelRun0_A (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : cond0_0 i)
    (x0 : Vec F S1024x2880 .bf16) (x1 : Vec F S1024x256 .bf16) (x2 : Vec F S256x2880 .f32) (x3 : Vec F S256x90 .f32) :
    { LS1 : List (View.Piece (Elt F) S256x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsq_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_lsq_backward_eq_skeleton]; unfold cc0_lsq_backward_skel
    simp only [k0_part180_eq_skeleton, k0_part15_eq_skeleton, k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part181_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part182_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KernelRunB.lean ====
/- The kernel's body at the points after the first, run for any reading of the floats, nothing said of what it computes. -/
module

public import proofs.«01_k».proof.Proof.KernelRunA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large)
set_option maxHeartbeats 5144000 in
/-- The body run at a point after the first, where the branch is not taken: the inputs are left as they were, the outputs and the scratch
    at some contents. The witness is what the stores into the scratch of reciprocals leave there. -/
noncomputable def kernelRun0_B (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : ¬cond0_0 i)
    (x0 : Vec F S1024x2880 .bf16) (x1 : Vec F S1024x256 .bf16) (x2 : Vec F S256x2880 .f32) (x3 : Vec F S256x90 .f32) (xs1 : Vec F S256x128 .f32) :
    { LS1 : List (View.Piece (Elt F) S256x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} arg13.view.writes (Elt F) (harg13.unread xs1) LS1) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsq_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_lsq_backward_eq_skeleton]; unfold cc0_lsq_backward_skel
    simp only [k0_part180_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part181_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part182_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg13.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KernelFrame.lean ====
/- The kernel's frame, for any reading of the floats: it ends, faults nowhere, leaves its arguments as they were and every
   semaphore at zero. Nothing is said here of what it computes, so the outputs and the scratch are at some contents throughout. -/
module

public import proofs.«01_k».proof.Proof.KernelRunB
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A run that leaves the inputs' arrays alone and says nothing of the outputs proves the frame claim's post. -/
theorem frame_of_loose (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The windows of which nothing is said: the seven outputs. -/
def forgets0 : Fin 11 → Bool := fun w => w.val == 4 || w.val == 5 || w.val == 6 || w.val == 7 || w.val == 8 || w.val == 9 || w.val == 10

/-- The proof data: each array as the region finds it, each input's buffer at its block after every point, the
    outputs unnamed, and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs hold their blocks, and which of the two runs applies is decided by the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl,
    show (dats m 0 c).Φ t.castSucc = Pipeline.ΦA spec0 c from rfl, PhiA0_eq]
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, ⟨%es1, HS1⟩, HS2, HS3, HS4⟩
    isplitl [HS0 HS1 HS2 HS3 HS4 Hg]
    · isplitl [HS0 HS1 HS2 HS3 HS4]
      · isplitl [HS0]
        · iexact HS0
        isplitl [HS1]
        · unfold owns; iexists _, _; isplitr
          swap; · iexact HS1
          ipureintro; rfl
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, ⟨%xs1, HS1⟩, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) xs1).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · isplitl [HS0]
        · iexact HS0
        isplitl [HS1]
        · unfold owns; iexists _, _; isplitr
          swap; · iexact HS1
          ipureintro; rfl
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: it ends, with the inputs' arrays unchanged and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun c => Idealize.SL.BI.Entails.refl _) (hout := fun c => Idealize.SL.BI.Entails.refl _)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_loose m ρ (fun c => (dats m 0 c).toRForget forgets0) (A_eq m) (run_main m ρ)

/-- The frame of the kernel, for any reading of the floats: it ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Quant.lean ====
/- The column quantisers, the kernel's and the reference's, at any size: what their scales and their quantised columns are
   at an index. -/
module

public import Idealize.ShloMosaic.Lib.Pointwise

@[expose] public section

noncomputable section

namespace Cert.Quant

open Idealize.ShloMosaic Idealize.ShloMosaic.TcCoe

/-! ## Scalars -/

/-- The exponent field the kernel counts for `t`: how many powers with fields `0 … 255` are at most `t`, less one. -/
def fieldK (t : EReal) : BitVec 32 :=
  IntOp.subi (Finset.univ.fold IntOp.addi 0#32 fun k : Fin 256 =>
    BitVec.setWidth 32 (BitVec.ofBool (decide (Ideal.ofBits FTy.f32 (IntOp.shli ArithUnit.vector (BitVec.ofNat 32 k.val) 23#32) ≤ t)))) 1#32
/-- The exponent the kernel takes from it. -/
def expK (t : EReal) : BitVec 32 :=
  Scalar.select (IntOp.cmpi CmpIPredicate.eq (fieldK t) 0#32) 0#32 (IntOp.subi (fieldK t) 126#32)
/-- The kernel's scale, and its reciprocal. -/
def scK (t : EReal) : EReal := Ideal.ofBits FTy.f32 (IntOp.shli ArithUnit.vector (IntOp.addi (expK t) 127#32) 23#32)
def invK (t : EReal) : EReal := Ideal.ofBits FTy.f32 (IntOp.shli ArithUnit.vector (IntOp.subi 127#32 (expK t)) 23#32)

/-- The reference's exponent of a column with maximum `a`, scaled to `t`. -/
def expR (a t : EReal) : EReal :=
  if a = 0 then 0 else
    Finset.univ.fold min (Ideal.ofBits FTy.f32 0x7F800000#32) fun k : Fin 256 =>
      if t < Ideal.exp2 ((((BitVec.ofNat 32 k.val).toInt : ℝ) : EReal) - Ideal.ofBits FTy.f32 0x42FC0000#32)
      then (((BitVec.ofNat 32 k.val).toInt : ℝ) : EReal) - Ideal.ofBits FTy.f32 0x42FC0000#32 else Ideal.ofBits FTy.f32 0x43020000#32

/-- A column's greatest magnitude, folded from `b`. -/
def colMax {n m : ℕ} (b : EReal) (x : (⟨2, ![n, m]⟩ : Shape).Idx → EReal) (c : Fin m) : EReal :=
  Finset.univ.fold max b fun k : Fin n => max (x (ix2 k c)) (-x (ix2 k c))

theorem reshape_row {m : ℕ} (h : (⟨1, ![m]⟩ : Shape).ShapeCasts ⟨2, ![1, m]⟩) (c : Fin m) : Shape.reshapeEquiv h (ix2 0 c) = ix1 c := by
  refine Shape.reshapeEquiv_eq_of_rowMajor h ?_
  rw [Shape.rowMajor_val_one, Shape.rowMajor_val_two]
  show c.val = 0 * m + c.val
  omega

theorem bcast_row {α : Type} {n m : ℕ} (y : (⟨2, ![1, m]⟩ : Shape).Idx → α) (h : (⟨2, ![1, m]⟩ : Shape).Broadcasts ⟨2, ![n, m]⟩) (j : (⟨2, ![n, m]⟩ : Shape).Idx) :
    broadcastTo ⟨2, ![n, m]⟩ y h j = y (ix2 0 (j 1)) := by
  unfold broadcastTo
  congr 1
  funext a
  match a with
  | ⟨0, _⟩ => exact Subsingleton.elim (α := Fin 1) _ _
  | ⟨1, _⟩ =>
    apply Fin.ext
    show _ = (j 1).val
    have hj : (j 1).val < m := (j 1).isLt
    by_cases hm : m = 1
    · subst hm; simp; omega
    · simp [hm]

section Kernel
variable {n m : ℕ} (x : FVec Ideal ⟨2, ![n, m]⟩ .bf16) (cst : EReal)
    (h1 : (⟨2, ![n, m]⟩ : Shape).Reduces [0] ⟨1, ![m]⟩) (h2 : (⟨1, ![m]⟩ : Shape).ShapeCasts ⟨2, ![1, m]⟩) (hc : (⟨2, ![n, m]⟩ : Shape).ShapeCasts ⟨2, ![n, m]⟩)
    (h3 : (⟨2, ![256, m]⟩ : Shape).Reduces [0] ⟨1, ![m]⟩) (h4 : (⟨2, ![1, m]⟩ : Shape).Broadcasts ⟨2, ![256, m]⟩)
    (h5 : (⟨2, ![1, m]⟩ : Shape).Broadcasts ⟨2, ![n, m]⟩) (hi)

/-! ## The kernel's -/

/-- The scaled column maxima. -/
def tK : FVec Ideal ⟨2, ![1, m]⟩ .f32 :=
  mulf (extf .f32 (shapeCast ⟨2, ![1, m]⟩ (multiReduction .maximumf [0] ⟨1, ![m]⟩ (absf (shapeCast ⟨2, ![n, m]⟩ x hc)) 0xFF80#16 h1 (.inr rfl) rfl) h2) (by decide))
    (broadcast ⟨2, ![1, m]⟩ (cst : Ideal .f32))
theorem tK_apply (c : Fin m) :
    tK x cst h1 h2 hc (ix2 0 c) = colMax (Ideal.ofBits .bf16 0xFF80#16) x c * cst := by
  pointwise [tK, colMax, reshape_row]
  rfl

/-- The exponents. -/
def eK : IVec ⟨2, ![1, m]⟩ 32 :=
  let f := subi (shapeCast ⟨2, ![1, m]⟩ (multiReductionI .add [0] ⟨1, ![m]⟩ (extui 32 (cmpf .oge (broadcastTo ⟨2, ![256, m]⟩ (tK x cst h1 h2 hc) h4)
    (bitcastToFloat .f32 (shli (iota .tc ⟨2, ![256, m]⟩ 32 [0] hi) (broadcast ⟨2, ![256, m]⟩ 23#32)))) (by decide)) 0#32 h3 rfl) h2) (broadcast ⟨2, ![1, m]⟩ 1#32)
  select (cmpi .eq f (broadcast ⟨2, ![1, m]⟩ 0#32)) (broadcast ⟨2, ![1, m]⟩ 0#32) (subi f (broadcast ⟨2, ![1, m]⟩ 126#32))
theorem eK_apply (c : Fin m) :
    eK x cst h1 h2 hc h3 h4 hi (ix2 0 c) = expK (colMax (Ideal.ofBits .bf16 0xFF80#16) x c * cst) := by
  pointwise [eK, expK, fieldK, reshape_row, bcast_row, tK_apply]

/-- The scales. -/
def sK : FVec Ideal ⟨2, ![1, m]⟩ .f32 :=
  bitcastToFloat .f32 (shli (addi (eK x cst h1 h2 hc h3 h4 hi) (broadcast ⟨2, ![1, m]⟩ 127#32)) (broadcast ⟨2, ![1, m]⟩ 23#32))
theorem sK_apply (c : Fin m) :
    sK x cst h1 h2 hc h3 h4 hi (ix2 0 c) = scK (colMax (Ideal.ofBits .bf16 0xFF80#16) x c * cst) := by
  pointwise [sK, scK, eK_apply]

/-- The quantised columns. -/
def qK (lo hi' : BitVec 16) (φ : FTy) (hφ : φ.bits < FTy.bf16.bits) : FVec Ideal ⟨2, ![n, m]⟩ φ :=
  truncf φ (minimumf (broadcast ⟨2, ![n, m]⟩ (Scalar.ofBits .bf16 hi' : Ideal .bf16)) (maximumf (broadcast ⟨2, ![n, m]⟩ (Scalar.ofBits .bf16 lo : Ideal .bf16))
    (mulf (shapeCast ⟨2, ![n, m]⟩ x hc) (broadcastTo ⟨2, ![n, m]⟩
      (truncf .bf16 (bitcastToFloat .f32 (shli (subi (broadcast ⟨2, ![1, m]⟩ 127#32) (eK x cst h1 h2 hc h3 h4 hi)) (broadcast ⟨2, ![1, m]⟩ 23#32))) (by decide)) h5)))) hφ
theorem qK_apply (lo hi' : BitVec 16) (φ hφ) (r : Fin n) (c : Fin m) :
    qK x cst h1 h2 hc h3 h4 h5 hi lo hi' φ hφ (ix2 r c) =
      min (Ideal.ofBits .bf16 hi') (max (Ideal.ofBits .bf16 lo) (x (ix2 r c) * invK (colMax (Ideal.ofBits .bf16 0xFF80#16) x c * cst))) := by
  pointwise [qK, invK, bcast_row, eK_apply]
end Kernel

/-! ## The reference's -/
section Reference
variable {n m : ℕ} (x : FVec Ideal ⟨2, ![n, m]⟩ .bf16) (cst : EReal)
    (h1 : (⟨2, ![n, m]⟩ : Shape).Reduces [0] ⟨1, ![m]⟩) (h2 : (⟨1, ![m]⟩ : Shape).ShapeCasts ⟨2, ![1, m]⟩) (hc : (⟨2, ![n, m]⟩ : Shape).ShapeCasts ⟨2, ![n, m]⟩)
    (h3 : (⟨2, ![256, m]⟩ : Shape).Reduces [0] ⟨1, ![m]⟩) (h4 : (⟨2, ![1, m]⟩ : Shape).Broadcasts ⟨2, ![256, m]⟩)
    (h5 : (⟨2, ![1, m]⟩ : Shape).Broadcasts ⟨2, ![n, m]⟩) (hi)

/-- The column maxima. -/
def aR : FVec Ideal ⟨2, ![1, m]⟩ .f32 :=
  shapeCast ⟨2, ![1, m]⟩ (multiReduction .maximumf [0] ⟨1, ![m]⟩ (absf (extf .f32 (shapeCast ⟨2, ![n, m]⟩ x hc) (by decide))) 0xFF800000#32 h1 (.inl rfl) rfl) h2
theorem aR_apply (c : Fin m) : aR x h1 h2 hc (ix2 0 c) = colMax (Ideal.ofBits .f32 0xFF800000#32) x c := by
  pointwise [aR, colMax, reshape_row]
  rfl
def tR : FVec Ideal ⟨2, ![1, m]⟩ .f32 := mulf (aR x h1 h2 hc) (broadcast ⟨2, ![1, m]⟩ (cst : Ideal .f32))
theorem tR_apply (c : Fin m) : tR x cst h1 h2 hc (ix2 0 c) = colMax (Ideal.ofBits .f32 0xFF800000#32) x c * cst := by
  pointwise [tR, aR_apply]

/-- The exponents. -/
def eR : FVec Ideal ⟨2, ![1, m]⟩ .f32 :=
  let k : FVec Ideal ⟨2, ![256, m]⟩ .f32 := subf (sitofp .f32 (iota .tc ⟨2, ![256, m]⟩ 32 [0] hi)) (broadcast ⟨2, ![256, m]⟩ (Scalar.ofBits .f32 0x42FC0000#32 : Ideal .f32))
  select (cmpf .oeq (aR x h1 h2 hc) (broadcast ⟨2, ![1, m]⟩ (Scalar.ofBits .f32 0x00000000#32 : Ideal .f32)))
    (broadcast ⟨2, ![1, m]⟩ (Scalar.ofBits .f32 0x00000000#32 : Ideal .f32))
    (shapeCast ⟨2, ![1, m]⟩ (multiReduction .minimumf [0] ⟨1, ![m]⟩ (select (cmpf .olt (broadcastTo ⟨2, ![256, m]⟩ (tR x cst h1 h2 hc) h4) (exp2 k)) k
      (broadcast ⟨2, ![256, m]⟩ (Scalar.ofBits .f32 0x43020000#32 : Ideal .f32))) 0x7F800000#32 h3 (.inl rfl) rfl) h2)
theorem eR_apply (c : Fin m) :
    eR x cst h1 h2 hc h3 h4 hi (ix2 0 c) = expR (colMax (Ideal.ofBits .f32 0xFF800000#32) x c) (colMax (Ideal.ofBits .f32 0xFF800000#32) x c * cst) := by
  pointwise [eR, expR, reshape_row, bcast_row, tR_apply, aR_apply]
  rfl
theorem sR_apply (c : Fin m) : exp2 (eR x cst h1 h2 hc h3 h4 hi) (ix2 0 c)
    = Ideal.exp2 (expR (colMax (Ideal.ofBits .f32 0xFF800000#32) x c) (colMax (Ideal.ofBits .f32 0xFF800000#32) x c * cst)) := by
  pointwise [eR_apply]
  rfl
/-- The quantised columns. -/
def qR (lo hi' : BitVec 32) (φ : FTy) (hφ : φ.bits < FTy.f32.bits) : FVec Ideal ⟨2, ![n, m]⟩ φ :=
  truncf φ (minimumf (broadcast ⟨2, ![n, m]⟩ (Scalar.ofBits .f32 hi' : Ideal .f32)) (maximumf (broadcast ⟨2, ![n, m]⟩ (Scalar.ofBits .f32 lo : Ideal .f32))
    (mulf (extf .f32 (shapeCast ⟨2, ![n, m]⟩ x hc) (by decide)) (broadcastTo ⟨2, ![n, m]⟩
      (exp2 (subf (broadcast ⟨2, ![1, m]⟩ (Scalar.ofBits .f32 0x00000000#32 : Ideal .f32)) (eR x cst h1 h2 hc h3 h4 hi))) h5)))) hφ
theorem qR_apply (lo hi' : BitVec 32) (φ hφ) (r : Fin n) (c : Fin m) :
    qR x cst h1 h2 hc h3 h4 h5 hi lo hi' φ hφ (ix2 r c) =
      min (Ideal.ofBits .f32 hi') (max (Ideal.ofBits .f32 lo) (x (ix2 r c) * Ideal.exp2 (0 - expR (colMax (Ideal.ofBits .f32 0xFF800000#32) x c) (colMax (Ideal.ofBits .f32 0xFF800000#32) x c * cst)))) := by
  pointwise [qR, bcast_row, eR_apply]
  rfl
end Reference
end Cert.Quant
-- ==== Proof.Runs.lean ====
/- What the two runs of the kernel's body share: the condition of the branch in closed form, the staging and
   scratch memrefs, and the region's invariant over the scratch. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 8 is never idle. -/
theorem liveAt0_8 : ∀ t : Fin cfg0.N, cfg0.idle 8 (grid0.coords t) = false := fun _ => rfl
/-- Window 9 is never idle. -/
theorem liveAt0_9 : ∀ t : Fin cfg0.N, cfg0.idle 9 (grid0.coords t) = false := fun _ => rfl
/-- Window 10 is never idle. -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2880 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2880 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x90 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2880 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x90 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2880 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2880 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1440 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x1024 .fp8e5m2 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S2x768x128 .f32 := Memref.whole cc0_scratch3
abbrev scM0_4 : Memref sig .tc .vmem S8x128 .i32 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Tile.lean ====
/- One tile of the body's work — 128 rows by 128 (at the end 64) columns — as functions of what the body reads, and the
   body's stores as lists over the tiles. -/
module

public import proofs.«01_k».proof.Proof.Runs

@[expose] public section

noncomputable section

namespace Cert.KernelIdeal.Hand

open Cert.KernelIdeal.Gen
open Idealize.ShloMosaic Idealize.ShloMosaic.TcCoe

variable {F : FTy → Type} [FloatOps F]

/-! ## The weights' quantiser, element by element -/

section Elementwise
variable {s : Shape}

/-- The scaled weight clipped to the code range. -/
def vclip (v : FVec F s .f32) : FVec F s .f32 :=
  minimumf (broadcast s (Scalar.ofBits .f32 0x40E00000#32)) (maximumf (broadcast s (Scalar.ofBits .f32 0xC1000000#32)) v)
/-- Where the clip changes nothing. -/
def vin (v : FVec F s .f32) : IVec s 1 := cmpf .oeq (vclip v) v
/-- The code, as a float. -/
def vcode (v : FVec F s .f32) : FVec F s .f32 := roundeven (vclip v)
/-- The factor of the scale's gradient. -/
def vfac (v : FVec F s .f32) : FVec F s .f32 :=
  subf (vcode v) (select (vin v) v (broadcast s (Scalar.ofBits .f32 0x00000000#32)))
/-- The weight's gradient: the product where the clip changes nothing, else zero. -/
def vgrad (v d : FVec F s .f32) : FVec F s .f32 :=
  select (vin v) d (broadcast s (Scalar.ofBits .f32 0x00000000#32))

end Elementwise

/-! ## A tile's reads -/

/-- The column index of a lane. -/
def lanes : IVec S128x128 32 := iota Kind.tc S128x128 32 [1] iota_S128x128_d1_w32

/-- The group of a lane, counted from `g`: the quotient by the group length rounded down, plus `g`. -/
def gIdx (g : BitVec 32) : IVec S128x128 32 :=
  let q : IVec S128x128 32 := divsi lanes (broadcast S128x128 32#32)
  let sgn : IVec S128x128 32 := subi (extui 32 (cmpi .sgt lanes (broadcast S128x128 0#32)) natLt_1_32)
    (extui 32 (cmpi .slt lanes (broadcast S128x128 0#32)) natLt_1_32)
  let one : BitVec 32 := Scalar.subi (Scalar.extui (Scalar.cmpi .sgt 32#32 0#32)) (Scalar.extui (Scalar.cmpi .slt 32#32 0#32))
  let adj : IVec S128x128 1 := andi (cmpi .ne sgn (broadcast S128x128 one))
    (cmpi .ne (remsi lanes (broadcast S128x128 32#32)) (broadcast S128x128 0#32))
  let q' : IVec S128x128 32 := addi (select adj (subi q (broadcast S128x128 1#32)) q) (broadcast S128x128 g)
  let q'' : IVec S128x128 32 := select (cmpi .slt q' (broadcast S128x128 0#32)) (addi q' (broadcast S128x128 128#32)) q'
  shapeCast S128x128 (shapeCast S128x128x1 q'' shapeCasts_S128x128_S128x128x1) shapeCasts_S128x128x1_S128x128

/-- The scaled weights of a full tile: the weights by the reciprocals of their groups' scales. -/
def tV (g : BitVec 32) (rs w : Vec F S128x128 .f32) : FVec F S128x128 .f32 := mulf w (dynamicGather 1 rs (gIdx g))
/-- The scaled weights of a half tile. -/
def uV (g : BitVec 32) (rs : Vec F S128x128 .f32) (w : Vec F S128x64 .f32) : FVec F S128x64 .f32 :=
  mulf w (extractStridedSlice S128x64 ![0, 0] (dynamicGather 1 rs (gIdx g)) slices_S128x128_o0_0_S128x64)

theorem sl256 (h : Fin 2) (t : ℕ) (ht : t < 2) : S256x256.Slices ![128 * h.val, 128 * t] S128x128 :=
  ⟨rfl, fun a => by match a with
    | ⟨0, _⟩ => show 128 * h.val + 128 ≤ 256; omega
    | ⟨1, _⟩ => show 128 * t + 128 ≤ 256; omega⟩
theorem sl64 (h : Fin 2) : S256x64.Slices ![128 * h.val, 0] S128x64 :=
  ⟨rfl, fun a => by match a with
    | ⟨0, _⟩ => show 128 * h.val + 128 ≤ 256; omega
    | ⟨1, _⟩ => show 0 + 64 ≤ 64; omega⟩

/-- The dequantised gradient of a full tile: the product's tile by the two scales. -/
def tD (h : Fin 2) (t : ℕ) (ht : t < 2) (acc : FVec F S256x256 .f32) (syc : Vec F S128x128 .f32) (sx : Vec F S1x128 .f32) : FVec F S128x128 .f32 :=
  mulf (mulf (extractStridedSlice S128x128 ![128 * h.val, 128 * t] acc (sl256 h t ht)) syc)
    (broadcastTo S128x128 (shapeCast S1x128 sx shapeCasts_S1x128_S1x128) broadcasts_S1x128_S128x128)
/-- The dequantised gradient of a half tile. -/
def uD (h : Fin 2) (acc : FVec F S256x64 .f32) (syc : Vec F S128x64 .f32) (sx : Vec F S1x64 .f32) : FVec F S128x64 .f32 :=
  mulf (mulf (extractStridedSlice S128x64 ![128 * h.val, 0] acc (sl64 h)) syc)
    (broadcastTo S128x64 (shapeCast S1x64 sx shapeCasts_S1x64_S1x64) broadcasts_S1x64_S128x64)

/-- A full tile's sums over each group of the factor by the gradient, eight columns of a group apart. -/
def tP (v d : FVec F S128x128 .f32) : FVec F S1x32x128 .f32 :=
  shapeCast S1x32x128 (shapeCast S32x128 (multiReduction .add [1] S4x8x128
    (shapeCast S4x4x8x128 (transpose S128x128 [1, 0] (mulf (vfac v) d) transposes_S128x128_p1_0_S128x128) shapeCasts_S128x128_S4x4x8x128)
    0x00000000#32 reduces_S4x4x8x128_S4x8x128 (.inl rfl) rfl) shapeCasts_S4x8x128_S32x128) shapeCasts_S32x128_S1x32x128
/-- The same of a half tile. -/
def uP (v d : FVec F S128x64 .f32) : FVec F S1x16x128 .f32 :=
  shapeCast S1x16x128 (shapeCast S16x128 (multiReduction .add [1] S2x8x128
    (shapeCast S2x4x8x128 (transpose S64x128 [1, 0] (mulf (vfac v) d) transposes_S128x64_p1_0_S64x128) shapeCasts_S64x128_S2x4x8x128)
    0x00000000#32 reduces_S2x4x8x128_S2x8x128 (.inl rfl) rfl) shapeCasts_S2x8x128_S16x128) shapeCasts_S16x128_S1x16x128

/-! ## What the body reads, tile by tile -/

/-- The body's reads: the reciprocal scales' rows, the weights' tiles, the gradient scales' rows, the input scales'
    columns, and the products. -/
structure Reads (F : FTy → Type) where
  rs : Fin 2 → Vec F S128x128 .f32
  w : Fin 2 → Fin 22 → Vec F S128x128 .f32
  w' : Fin 2 → Vec F S128x64 .f32
  syc : Fin 2 → Vec F S128x128 .f32
  syc' : Fin 2 → Vec F S128x64 .f32
  sx : Fin 22 → Vec F S1x128 .f32
  sx' : Vec F S1x64 .f32
  acc : Fin 11 → FVec F S256x256 .f32
  acc' : FVec F S256x64 .f32

variable (R : Reads F)

/-- The scaled weights of tile `(h, j)`. -/
def Reads.tv (h : Fin 2) (j : Fin 22) : FVec F S128x128 .f32 := tV (BitVec.ofNat 32 (4 * j.val)) (R.rs h) (R.w h j)
def Reads.uv (h : Fin 2) : FVec F S128x64 .f32 := uV 88#32 (R.rs h) (R.w' h)
/-- The dequantised gradient of tile `(h, j)`. -/
def Reads.td (h : Fin 2) (j : Fin 22) : FVec F S128x128 .f32 :=
  tD h (j.val % 2) (Nat.mod_lt _ (by decide)) (R.acc ⟨j.val / 2, by omega⟩) (R.syc h) (R.sx j)
def Reads.ud (h : Fin 2) : FVec F S128x64 .f32 := uD h R.acc' (R.syc' h) R.sx'

theorem inbT (h : Fin 2) (j : Fin 22) : ∀ a, (![128 * h.val, 128 * j.val] : Fin 2 → Nat) a + S128x128.size a ≤ S256x2880.size a := fun a => by
  match a with
  | ⟨0, _⟩ => show 128 * h.val + 128 ≤ 256; omega
  | ⟨1, _⟩ => show 128 * j.val + 128 ≤ 2880; omega
theorem inbU (h : Fin 2) : ∀ a, (![128 * h.val, 2816] : Fin 2 → Nat) a + S128x64.size a ≤ S256x2880.size a := fun a => by
  match a with
  | ⟨0, _⟩ => show 128 * h.val + 128 ≤ 256; omega
  | ⟨1, _⟩ => show 2816 + 64 ≤ 2880; omega
theorem inbPT (h : Fin 2) (j : Fin 22) : ∀ a, (![h.val, 32 * j.val, 0] : Fin 3 → Nat) a + S1x32x128.size a ≤ S2x768x128.size a := fun a => by
  match a with
  | ⟨0, _⟩ => show h.val + 1 ≤ 2; omega
  | ⟨1, _⟩ => show 32 * j.val + 32 ≤ 768; omega
  | ⟨2, _⟩ => show 0 + 128 ≤ 128; omega
theorem inbPU (h : Fin 2) : ∀ a, (![h.val, 704, 0] : Fin 3 → Nat) a + S1x16x128.size a ≤ S2x768x128.size a := fun a => by
  match a with
  | ⟨0, _⟩ => show h.val + 1 ≤ 2; omega
  | ⟨1, _⟩ => show 704 + 16 ≤ 768; omega
  | ⟨2, _⟩ => show 0 + 128 ≤ 128; omega

/-- The full tiles in the order the body leaves them, last first. -/
def tiles : List (Fin 2 × Fin 22) :=
  [(1, 21), (1, 20), (0, 21), (0, 20), (1, 19), (1, 18), (0, 19), (0, 18), (1, 17), (1, 16), (0, 17), (0, 16), (1, 15), (1, 14), (0, 15), (0, 14), (1, 13), (1, 12), (0, 13), (0, 12), (1, 11), (1, 10), (0, 11), (0, 10), (1, 9), (1, 8), (0, 9), (0, 8), (1, 7), (1, 6), (0, 7), (0, 6), (1, 5), (1, 4), (0, 5), (0, 4), (1, 3), (1, 2), (0, 3), (0, 2), (1, 1), (1, 0), (0, 1), (0, 0)]

/-- The weight gradient's stores. -/
def Reads.dwT (p : Fin 2 × Fin 22) : View.Piece (Elt F) S256x2880 .f32 :=
  ⟨Rect.unit ![128 * p.1.val, 128 * p.2.val] S128x128.size (inbT p.1 p.2), vgrad (R.tv p.1 p.2) (R.td p.1 p.2)⟩
def Reads.dwU (h : Fin 2) : View.Piece (Elt F) S256x2880 .f32 :=
  ⟨Rect.unit ![128 * h.val, 2816] S128x64.size (inbU h), vgrad (R.uv h) (R.ud h)⟩
def Reads.dw : List (View.Piece (Elt F) S256x2880 .f32) := R.dwU 1 :: R.dwU 0 :: tiles.map R.dwT

/-- The group sums' stores. -/
def Reads.partT (p : Fin 2 × Fin 22) : View.Piece (Elt F) S2x768x128 .f32 :=
  ⟨Rect.unit ![p.1.val, 32 * p.2.val, 0] S1x32x128.size (inbPT p.1 p.2), tP (R.tv p.1 p.2) (R.td p.1 p.2)⟩
def Reads.partU (h : Fin 2) : View.Piece (Elt F) S2x768x128 .f32 :=
  ⟨Rect.unit ![h.val, 704, 0] S1x16x128.size (inbPU h), uP (R.uv h) (R.ud h)⟩
def Reads.part : List (View.Piece (Elt F) S2x768x128 .f32) := R.partU 1 :: R.partU 0 :: tiles.map R.partT

/-! ## The scale's gradient from the group sums -/

/-- Eight rows of the scale's gradient: the eight strided reads added up. -/
def dsRow (r : Fin 8 → Vec F S1x8x128 .f32) : FVec F S8x128 .f32 :=
  let c (k : Fin 8) : FVec F S8x128 .f32 := shapeCast S8x128 (r k) shapeCasts_S1x8x128_S8x128
  addf (addf (addf (addf (addf (addf (addf (c 0) (c 1)) (c 2)) (c 3)) (c 4)) (c 5)) (c 6)) (c 7)
/-- A half's rows together, scaled, transposed and cut to the groups there are. -/
def dsTile (r : Fin 12 → Fin 8 → Vec F S1x8x128 .f32) : FVec F S128x90 .f32 :=
  extractStridedSlice S128x90 ![0, 0] (transpose S128x96 [1, 0] (mulf (concatenate S96x128 0
      [⟨S8x128, dsRow (r 0)⟩, ⟨S8x128, dsRow (r 1)⟩, ⟨S8x128, dsRow (r 2)⟩, ⟨S8x128, dsRow (r 3)⟩, ⟨S8x128, dsRow (r 4)⟩, ⟨S8x128, dsRow (r 5)⟩,
       ⟨S8x128, dsRow (r 6)⟩, ⟨S8x128, dsRow (r 7)⟩, ⟨S8x128, dsRow (r 8)⟩, ⟨S8x128, dsRow (r 9)⟩, ⟨S8x128, dsRow (r 10)⟩, ⟨S8x128, dsRow (r 11)⟩]
      concatenates_S8x128_S8x128_S8x128_S8x128_S8x128_S8x128_S8x128_S8x128_S8x128_S8x128_S8x128_S8x128_S96x128_d0)
    (broadcast S96x128 (Scalar.ofBits .f32 0x3D88D677#32))) transposes_S96x128_p1_0_S128x96) slices_S128x96_o0_0_S128x90

theorem inbS (h : Fin 2) (b : Fin 12) (k : Fin 8) : ∀ a, S1x8x128.size a = 0 ∨ (![h.val, 64 * b.val + k.val, 0] : Fin 3 → Nat) a + (![1, 8, 1] : Fin 3 → Nat) a * (S1x8x128.size a - 1) < S2x768x128.size a := fun a => by
  match a with
  | ⟨0, _⟩ => exact .inr (show h.val + 1 * (1 - 1) < 2 by omega)
  | ⟨1, _⟩ => exact .inr (show 64 * b.val + k.val + 8 * (8 - 1) < 768 by omega)
  | ⟨2, _⟩ => exact .inr (show 0 + 1 * (128 - 1) < 128 by omega)

theorem inbD (h : Fin 2) : ∀ a, (![128 * h.val, 0] : Fin 2 → Nat) a + S128x90.size a ≤ S256x90.size a := fun a => by
  match a with
  | ⟨0, _⟩ => show 128 * h.val + 128 ≤ 256; omega
  | ⟨1, _⟩ => show 0 + 90 ≤ 90; omega

/-- The scale gradient's stores. -/
def dsPieces (r : Fin 2 → Fin 12 → Fin 8 → Vec F S1x8x128 .f32) : List (View.Piece (Elt F) S256x90 .f32) :=
  [⟨Rect.unit ![128 * (1 : Fin 2).val, 0] S128x90.size (inbD 1), dsTile (r 1)⟩, ⟨Rect.unit ![128 * (0 : Fin 2).val, 0] S128x90.size (inbD 0), dsTile (r 0)⟩]

/-! ## The packed codes -/

/-- Where a lane of the low half, and where one of the high half, takes its word from. -/
def ia : IVec S8x128 32 := k0_pay83 k0_pay78 (64#32) k0_pay79 k0_pay80 k0_pay81
def ib : IVec S8x128 32 := k0_pay84 k0_pay78 (64#32) k0_pay79 k0_pay80 k0_pay81
/-- A lane index as the gather wants it. -/
def wrap (i : IVec S8x128 32) : IVec S8x128 32 :=
  shapeCast S8x128 (shapeCast S8x128x1 (select (cmpi .slt i (broadcast S8x128 0#32)) (addi i (broadcast S8x128 128#32)) i)
    shapeCasts_S8x128_S8x128x1) shapeCasts_S8x128x1_S8x128
/-- The nibbles of a word's four bytes. -/
def nib (x : IVec S8x128 32) : IVec S8x128 32 := andi x (broadcast S8x128 252645135#32)
/-- Two words' lanes packed two to a byte. -/
def packW (a b : IVec S8x128 32) : IVec S32x128 8 :=
  let pa : IVec S8x128 32 := dynamicGather 1 a (wrap ia)
  let pb : IVec S8x128 32 := dynamicGather 1 b (wrap ib)
  bitcast S32x128 8 (ori (select k0_pay78 pa pb) (shli (dynamicRotate 1 64#32 none (select k0_pay78 pb pa) rotates_S8x128_d1) (broadcast S8x128 4#32)))
    bitcasts_S8x128_w32_S32x128_w8

theorem slR (r : Fin 4) : S128x128.Slices ![32 * r.val, 0] S32x128 :=
  ⟨rfl, fun a => by match a with
    | ⟨0, _⟩ => show 32 * r.val + 32 ≤ 128; omega
    | ⟨1, _⟩ => show 0 + 128 ≤ 128; omega⟩
theorem slR' (r : Fin 4) : S128x64.Slices ![32 * r.val, 0] S32x64 :=
  ⟨rfl, fun a => by match a with
    | ⟨0, _⟩ => show 32 * r.val + 32 ≤ 128; omega
    | ⟨1, _⟩ => show 0 + 64 ≤ 64; omega⟩

/-- The codes' words of rows `32 r …` of a full tile. -/
def word (v : FVec F S128x128 .f32) (r : Fin 4) : IVec S8x128 32 :=
  bitcast S8x128 32 (extractStridedSlice S32x128 ![32 * r.val, 0] (fptosi 8 (vcode v)) (slR r)) bitcasts_S32x128_w8_S8x128_w32
/-- The codes' words of rows `32 r …` of a half tile. -/
def word' (v : FVec F S128x64 .f32) (r : Fin 4) : IVec S8x64 32 :=
  shapeCast S8x64 (bitcast S8x64 32 (extractStridedSlice S32x64 ![32 * r.val, 0] (fptosi 8 (vcode v)) (slR' r)) bitcasts_S32x64_w8_S8x64_w32) shapeCasts_S8x64_S8x64

/-- The packed codes of rows `32 r …` of two tiles side by side, and of a half tile read back at twice its width. -/
def Reads.qT (h : Fin 2) (c : Fin 11) (r : Fin 4) : IVec S32x128 8 :=
  packW (nib (word (R.tv h ⟨2 * c.val, by omega⟩) r)) (nib (word (R.tv h ⟨2 * c.val + 1, by omega⟩) r))
def qU (x : Vec F S8x128 .i32) : IVec S32x32 8 :=
  extractStridedSlice S32x32 ![0, 0] (packW (nib x) (nib x)) slices_S32x128_o0_0_S32x32

theorem inbQT (h : Fin 2) (c : Fin 11) (r : Fin 4) : ∀ a, (![128 * h.val + 32 * r.val, 128 * c.val] : Fin 2 → Nat) a + S32x128.size a ≤ S256x1440.size a := fun a => by
  match a with
  | ⟨0, _⟩ => show 128 * h.val + 32 * r.val + 32 ≤ 256; omega
  | ⟨1, _⟩ => show 128 * c.val + 128 ≤ 1440; omega
theorem inbQU (h : Fin 2) (r : Fin 4) : ∀ a, (![128 * h.val + 32 * r.val, 1408] : Fin 2 → Nat) a + S32x32.size a ≤ S256x1440.size a := fun a => by
  match a with
  | ⟨0, _⟩ => show 128 * h.val + 32 * r.val + 32 ≤ 256; omega
  | ⟨1, _⟩ => show 1408 + 32 ≤ 1440; omega

/-- The strips of rows in the order the body leaves them, last first. -/
def strips : List (Fin 2 × Fin 4) := [(1, 3), (1, 2), (1, 1), (1, 0), (0, 3), (0, 2), (0, 1), (0, 0)]

def Reads.qpT (p : Fin 11 × Fin 2 × Fin 4) : View.Piece (Elt F) S256x1440 .i8 :=
  ⟨Rect.unit ![128 * p.2.1.val + 32 * p.2.2.val, 128 * p.1.val] S32x128.size (inbQT p.2.1 p.1 p.2.2), R.qT p.2.1 p.1 p.2.2⟩
def qpU (x : Fin 2 → Fin 4 → Vec F S8x128 .i32) (p : Fin 2 × Fin 4) : View.Piece (Elt F) S256x1440 .i8 :=
  ⟨Rect.unit ![128 * p.1.val + 32 * p.2.val, 1408] S32x32.size (inbQU p.1 p.2), qU (x p.1 p.2)⟩
/-- The packed codes' stores. -/
def Reads.qp (x : Fin 2 → Fin 4 → Vec F S8x128 .i32) : List (View.Piece (Elt F) S256x1440 .i8) :=
  strips.map (qpU x) ++ ([10, 9, 8, 7, 6, 5, 4, 3, 2, 1, 0] : List (Fin 11)).flatMap fun c => strips.map fun p => R.qpT (c, p)

theorem inbQ : ∀ a, (![0, 0] : Fin 2 → Nat) a + S8x64.size a ≤ S8x128.size a := fun a => by
  match a with
  | ⟨0, _⟩ => show 0 + 8 ≤ 8; omega
  | ⟨1, _⟩ => show 0 + 64 ≤ 128; omega
/-- The half tiles' words stored before they are read back: those of strip `(h, r)`, on top of the earlier ones. -/
def Reads.qtT (p : Fin 2 × Fin 4) : View.Piece (Elt F) S8x128 .i32 := ⟨Rect.unit ![0, 0] S8x64.size inbQ, word' (R.uv p.1) p.2⟩
def Reads.qt (h : Fin 2) (r : Fin 4) : List (View.Piece (Elt F) S8x128 .i32) :=
  (strips.drop (7 - (4 * h.val + r.val))).map R.qtT

end Cert.KernelIdeal.Hand

end
-- ==== Proof.Payloads.lean ====
/- The quantisers' payloads, the kernel's chunks and the reference's whole arrays, as the quantisers of any size. -/
module

public import proofs.«01_k».proof.Proof.Quant
public import proofs.«01_k».proof.Proof.Tile
public import proofs.«01_k».proof.Proof.Gen.ReferenceIdeal.Value

@[expose] public section

set_option maxRecDepth 16384

noncomputable section

namespace Cert.KernelIdeal.Hand

open Cert.KernelIdeal.Gen Cert.Quant
open Idealize.ShloMosaic Idealize.ShloMosaic.TcCoe Idealize.ShloMosaic.Tactic

abbrev mx : BitVec 32 := 0x3B124925#32
abbrev my : BitVec 32 := 0x37924925#32

section
variable (x : Vec Ideal S1024x256 .bf16) (z : Vec Ideal S1024x64 .bf16)

theorem pay4_eq : k0_pay4 x = sK x (Ideal.ofBits .f32 mx) reduces_S1024x256_S256 shapeCasts_S256_S1x256 shapeCasts_S1024x256_S1024x256
    reduces_S256x256_S256 broadcasts_S1x256_S256x256 iota_S256x256_d0_w32 := by sl_kernel_rfl
theorem pay5_eq : k0_pay5 x = qK x (Ideal.ofBits .f32 mx) reduces_S1024x256_S256 shapeCasts_S256_S1x256 shapeCasts_S1024x256_S1024x256
    reduces_S256x256_S256 broadcasts_S1x256_S256x256 broadcasts_S1x256_S1024x256 iota_S256x256_d0_w32 0xC3E0#16 0x43E0#16 .fp8e4m3 bitsLt_fp8e4m3_bf16 := by sl_kernel_rfl
theorem pay63_eq : k0_pay63 z = sK z (Ideal.ofBits .f32 mx) reduces_S1024x64_S64 shapeCasts_S64_S1x64 shapeCasts_S1024x64_S1024x64
    reduces_S256x64_S64 broadcasts_S1x64_S256x64 iota_S256x64_d0_w32 := by sl_kernel_rfl
theorem pay64_eq : k0_pay64 (k0_pay61 z) (k0_pay62 z) 127#32 = qK z (Ideal.ofBits .f32 mx) reduces_S1024x64_S64 shapeCasts_S64_S1x64 shapeCasts_S1024x64_S1024x64
    reduces_S256x64_S64 broadcasts_S1x64_S256x64 broadcasts_S1x64_S1024x64 iota_S256x64_d0_w32 0xC3E0#16 0x43E0#16 .fp8e4m3 bitsLt_fp8e4m3_bf16 := by sl_kernel_rfl
theorem pay71_eq : k0_pay71 x = sK x (Ideal.ofBits .f32 my) reduces_S1024x256_S256 shapeCasts_S256_S1x256 shapeCasts_S1024x256_S1024x256
    reduces_S256x256_S256 broadcasts_S1x256_S256x256 iota_S256x256_d0_w32 := by sl_kernel_rfl
theorem pay74_eq : k0_pay74 (k0_pay72 x) (Scalar.ofBits .bf16 0xC760#16) = qK x (Ideal.ofBits .f32 my) reduces_S1024x256_S256 shapeCasts_S256_S1x256 shapeCasts_S1024x256_S1024x256
    reduces_S256x256_S256 broadcasts_S1x256_S256x256 broadcasts_S1x256_S1024x256 iota_S256x256_d0_w32 0xC760#16 0x4760#16 .fp8e5m2 bitsLt_fp8e5m2_bf16 := by sl_kernel_rfl
end
end Cert.KernelIdeal.Hand

namespace Cert.ReferenceIdeal.Hand

open Cert.ReferenceIdeal.Gen Cert.Quant Cert.KernelIdeal.Hand
open Idealize.ShloMosaic Idealize.ShloMosaic.TcCoe Idealize.ShloMosaic.Tactic

variable (x : Vec Ideal S1024x2880 .bf16) (y : Vec Ideal S1024x7680 .bf16)
theorem ref4_eq : k0_pay4 x = qR x (Ideal.ofBits .f32 mx) reduces_S1024x2880_S2880 shapeCasts_S2880_S1x2880 shapeCasts_S1024x2880_S1024x2880
    reduces_S256x2880_S2880 broadcasts_S1x2880_S256x2880 broadcasts_S1x2880_S1024x2880 iota_S256x2880_d0_w32 0xC3E00000#32 0x43E00000#32 .fp8e4m3 bitsLt_fp8e4m3_f32 := by sl_kernel_rfl
theorem ref5_eq : k0_pay5 x = exp2 (eR x (Ideal.ofBits .f32 mx) reduces_S1024x2880_S2880 shapeCasts_S2880_S1x2880 shapeCasts_S1024x2880_S1024x2880
    reduces_S256x2880_S2880 broadcasts_S1x2880_S256x2880 iota_S256x2880_d0_w32) := by sl_kernel_rfl
theorem ref11_eq : k0_pay11 (k0_pay6 y) (k0_pay7 y) (k0_pay8 y) k0_pay9
  = qR y (Ideal.ofBits .f32 my) reduces_S1024x7680_S7680 shapeCasts_S7680_S1x7680 shapeCasts_S1024x7680_S1024x7680
    reduces_S256x7680_S7680 broadcasts_S1x7680_S256x7680 broadcasts_S1x7680_S1024x7680 iota_S256x7680_d0_w32 0xC7600000#32 0x47600000#32 .fp8e5m2 bitsLt_fp8e5m2_f32 := by sl_kernel_rfl
theorem ref12_eq : k0_pay12 (k0_pay7 y) (k0_pay8 y) k0_pay9
  = exp2 (eR y (Ideal.ofBits .f32 my) reduces_S1024x7680_S7680 shapeCasts_S7680_S1x7680 shapeCasts_S1024x7680_S1024x7680
    reduces_S256x7680_S7680 broadcasts_S1x7680_S256x7680 iota_S256x7680_d0_w32) := by sl_kernel_rfl
end Cert.ReferenceIdeal.Hand

end
-- ==== Proof.Spec.lean ====
/- What one grid point computes, block by block, as plain functions of its input blocks over the extended reals. -/
module

public import proofs.«01_k».proof.Proof.Payloads

@[expose] public section

set_option maxRecDepth 16384

noncomputable section

namespace Cert.KernelIdeal.Hand

open Cert.KernelIdeal.Gen Cert.Quant
open Idealize.ShloMosaic Idealize.ShloMosaic.TcCoe Idealize.ShloMosaic.Tactic

/-! ## Scalars -/

/-- The clip to the code range, whether it changes nothing, the code, the scale gradient's factor, the masked gradient. -/
def clipS (v : Ideal .f32) : Ideal .f32 := Scalar.minimumf (Scalar.ofBits .f32 0x40E00000#32) (Scalar.maximumf (Scalar.ofBits .f32 0xC1000000#32) v)
def inS (v : Ideal .f32) : BitVec 1 := Scalar.cmpf .oeq (clipS v) v
def codeS (v : Ideal .f32) : Ideal .f32 := Scalar.roundeven (clipS v)
def facS (v : Ideal .f32) : Ideal .f32 := Scalar.subf (codeS v) (Scalar.select (inS v) v (Scalar.ofBits .f32 0x00000000#32))
def gradS (v d : Ideal .f32) : Ideal .f32 := Scalar.select (inS v) d (Scalar.ofBits .f32 0x00000000#32)
def byteS (v : Ideal .f32) : BitVec 8 := Scalar.fptosi 8 (codeS v)

theorem vcode_apply {s : Shape} (v : FVec Ideal s .f32) (y : s.Idx) : vcode v y = codeS (v y) := rfl
theorem vfac_apply {s : Shape} (v : FVec Ideal s .f32) (y : s.Idx) : vfac v y = facS (v y) := rfl
theorem vgrad_apply {s : Shape} (v d : FVec Ideal s .f32) (y : s.Idx) : vgrad v d y = gradS (v y) (d y) := rfl

/-! ## The quantisers of a block -/

/-- A column's scale, and the quantised block. -/
def scaleOf {n m : ℕ} (cst : BitVec 32) (x : (⟨2, ![n, m]⟩ : Shape).Idx → EReal) (c : Fin m) : EReal :=
  scK (colMax (Ideal.ofBits .bf16 0xFF80#16) x c * Ideal.ofBits .f32 cst)
def quantOf {n m : ℕ} (cst : BitVec 32) (lo hi : BitVec 16) (x : (⟨2, ![n, m]⟩ : Shape).Idx → EReal) (r : Fin n) (c : Fin m) : EReal :=
  min (Ideal.ofBits .bf16 hi) (max (Ideal.ofBits .bf16 lo) (x (ix2 r c) * invK (colMax (Ideal.ofBits .bf16 0xFF80#16) x c * Ideal.ofBits .f32 cst)))

theorem colMax_congr {n m m' : ℕ} (b : EReal) (x : (⟨2, ![n, m]⟩ : Shape).Idx → EReal) (x' : (⟨2, ![n, m']⟩ : Shape).Idx → EReal) (c : Fin m) (c' : Fin m')
    (h : ∀ k, x (ix2 k c) = x' (ix2 k c')) : colMax b x c = colMax b x' c' := by
  unfold colMax; simp only [h]
theorem scaleOf_congr {n m m' : ℕ} (cst) (x : (⟨2, ![n, m]⟩ : Shape).Idx → EReal) (x' : (⟨2, ![n, m']⟩ : Shape).Idx → EReal) (c : Fin m) (c' : Fin m')
    (h : ∀ k, x (ix2 k c) = x' (ix2 k c')) : scaleOf cst x c = scaleOf cst x' c' := by
  unfold scaleOf; rw [colMax_congr _ x x' c c' h]
theorem quantOf_congr {n m m' : ℕ} (cst lo hi) (x : (⟨2, ![n, m]⟩ : Shape).Idx → EReal) (x' : (⟨2, ![n, m']⟩ : Shape).Idx → EReal) (r : Fin n) (c : Fin m) (c' : Fin m')
    (h : ∀ k, x (ix2 k c) = x' (ix2 k c')) : quantOf cst lo hi x r c = quantOf cst lo hi x' r c' := by
  unfold quantOf; rw [colMax_congr _ x x' c c' h, h]

section
variable (x : Vec Ideal S1024x256 .bf16) (z : Vec Ideal S1024x64 .bf16)
theorem pay4_apply (c : Fin 256) : k0_pay4 x (ix2 0 c) = scaleOf mx x c := by rw [pay4_eq]; exact sK_apply ..
theorem pay5_apply (r : Fin 1024) (c : Fin 256) : k0_pay5 x (ix2 r c) = quantOf mx 0xC3E0#16 0x43E0#16 x r c := by rw [pay5_eq]; exact qK_apply ..
theorem pay63_apply (c : Fin 64) : k0_pay63 z (ix2 0 c) = scaleOf mx z c := by rw [pay63_eq]; exact sK_apply ..
theorem pay64_apply (r : Fin 1024) (c : Fin 64) : k0_pay64 (k0_pay61 z) (k0_pay62 z) 127#32 (ix2 r c) = quantOf mx 0xC3E0#16 0x43E0#16 z r c := by rw [pay64_eq]; exact qK_apply ..
theorem pay71_apply (c : Fin 256) : k0_pay71 x (ix2 0 c) = scaleOf my x c := by rw [pay71_eq]; exact sK_apply ..
theorem pay74_apply (r : Fin 1024) (c : Fin 256) : k0_pay74 (k0_pay72 x) (Scalar.ofBits .bf16 0xC760#16) (ix2 r c) = quantOf my 0xC760#16 0x4760#16 x r c := by rw [pay74_eq]; exact qK_apply ..
theorem pay75_apply (r : Fin 256) (c : Fin 1024) : k0_pay75 (k0_pay72 x) (Scalar.ofBits .bf16 0xC760#16) (ix2 r c) = quantOf my 0xC760#16 0x4760#16 x c r := by
  rw [← pay74_apply]; pointwise [k0_pay75, k0_pay74]
theorem pay76_apply (r : Fin 256) (c : Fin 128) : k0_pay76 (k0_pay71 x) (ix2 r c) = scaleOf my x r := by
  rw [← pay71_apply]; pointwise [k0_pay76]
theorem pay77_apply (s : Vec Ideal S256x90 .f32) (r : Fin 256) (c : Fin 90) : k0_pay77 s (ix2 r c) = Scalar.divf (F := Ideal) (Scalar.ofBits .f32 0x3F800000#32) (s (ix2 r c)) := by
  pointwise [k0_pay77]
end
theorem pay85_apply (a : Vec Ideal S256x1024 .fp8e5m2) (b : Vec Ideal S1024x256 .fp8e4m3) (r : Fin 256) (c : Fin 256) :
    k0_pay85 a b (ix2 r c) = ∑ k : Fin 1024, (a (ix2 r k) : EReal) * b (ix2 k c) := by pointwise [k0_pay85]
theorem pay794_apply (a : Vec Ideal S256x1024 .fp8e5m2) (b : Vec Ideal S1024x64 .fp8e4m3) (r : Fin 256) (c : Fin 64) :
    k0_pay794 a b (ix2 r c) = ∑ k : Fin 1024, (a (ix2 r k) : EReal) * b (ix2 k c) := by pointwise [k0_pay794]

/-! ## The blocks -/

section
variable (x0 : Vec Ideal S1024x2880 .bf16) (x1 : Vec Ideal S1024x256 .bf16) (x2 : Vec Ideal S256x2880 .f32) (x3 : Vec Ideal S256x90 .f32)

/-- The quantised input and its scales. -/
def bXQ : Vec Ideal S1024x2880 .fp8e4m3 := fun y => quantOf mx 0xC3E0#16 0x43E0#16 x0 (y 0) (y 1)
def bSX : Vec Ideal S1x2880 .f32 := fun y => scaleOf mx x0 (y 1)
/-- The quantised output gradient's block and its scales. -/
def bDQ : Vec Ideal S1024x256 .fp8e5m2 := fun y => quantOf my 0xC760#16 0x4760#16 x1 (y 0) (y 1)
def bSY : Vec Ideal S1x256 .f32 := fun y => scaleOf my x1 (y 1)
/-- A weight over its group's scale, as the product by the scale's reciprocal. -/
def sV (r : Fin 256) (c : Fin 2880) : EReal := x2 (ix2 r c) * Scalar.divf (F := Ideal) (φ := .f32) (Scalar.ofBits .f32 0x3F800000#32) (x3 (ix2 r ⟨c.val / 32, by omega⟩))
/-- The product of the quantised operands, and scaled back. -/
def sAcc (r : Fin 256) (c : Fin 2880) : EReal := ∑ k : Fin 1024, (bDQ x1 (ix2 k r) : EReal) * bXQ x0 (ix2 k c)
def sD (r : Fin 256) (c : Fin 2880) : EReal := sAcc x0 x1 r c * scaleOf my x1 r * scaleOf mx x0 c
/-- The scale gradient's factor by the gradient. -/
def sFD (r : Fin 256) (c : Fin 2880) : EReal := facS (sV x2 x3 r c) * sD x0 x1 r c
/-- The weight gradient's block. -/
def bDW : Vec Ideal S256x2880 .f32 := fun y => gradS (sV x2 x3 (y 0) (y 1)) (sD x0 x1 (y 0) (y 1))
/-- A column of a group: `k`-th run of eight, `j`-th in it. -/
def gcol (g : Fin 90) (j : Fin 8) (k : Fin 4) : Fin 2880 := ⟨32 * g.val + 8 * k.val + j.val, by omega⟩
/-- One of a group's eight partial sums. -/
def sPart (r : Fin 256) (g : Fin 90) (j : Fin 8) : EReal := ∑ k : Fin 4, sFD x0 x1 x2 x3 r (gcol g j k)
/-- The scale gradient's block. -/
def bDS : Vec Ideal S256x90 .f32 := fun y => (∑ j : Fin 8, sPart x0 x1 x2 x3 (y 0) (y 1) j) * Ideal.ofBits .f32 0x3D88D677#32
/-- The packed codes: the low nibble the even column's, the high nibble the odd column's. -/
def bQP : Vec Ideal S256x1440 .i8 := fun y =>
  (byteS (sV x2 x3 (y 0) ⟨2 * (y 1).val, by have : (y 1).val < 1440 := (y 1).isLt; omega⟩) &&& 15#8)
    ||| ((byteS (sV x2 x3 (y 0) ⟨2 * (y 1).val + 1, by have : (y 1).val < 1440 := (y 1).isLt; omega⟩) &&& 15#8) <<< 4)
end

end Cert.KernelIdeal.Hand
end
-- ==== Proof.Tiles.lean ====
/- The tiles of a point's work, entry by entry, given what the point's reads hold. -/
module

public import proofs.«01_k».proof.Proof.Spec

@[expose] public section

set_option maxRecDepth 16384

noncomputable section

namespace Cert.KernelIdeal.Hand

open Cert.KernelIdeal.Gen Cert.Quant
open Idealize.ShloMosaic Idealize.ShloMosaic.TcCoe Idealize.ShloMosaic.Tactic

/-- The group of a lane is the lane's quotient by the group length, from `g` on. -/
theorem gIdx_apply (j : Fin 23) (r c : Fin 128) : gIdx (BitVec.ofNat 32 (4 * j.val)) (ix2 r c) = BitVec.ofNat 32 (4 * j.val + c.val / 32) := by
  have key : ∀ j : Fin 23, ∀ c : Fin 128, gIdx (BitVec.ofNat 32 (4 * j.val)) (ix2 (0 : Fin 128) c) = BitVec.ofNat 32 (4 * j.val + c.val / 32) := by
    intro j c
    pointwise [gIdx, lanes]
    revert j c
    decide +kernel
  rw [← key]
  pointwise [gIdx, lanes]

theorem tV_apply (j : Fin 22) (rs w : Vec Ideal S128x128 .f32) (r c : Fin 128) :
    tV (BitVec.ofNat 32 (4 * j.val)) rs w (ix2 r c) = (w (ix2 r c) : EReal) * rs (ix2 r ⟨4 * j.val + c.val / 32, by omega⟩) := by
  have g := gIdx_apply ⟨j.val, by omega⟩ r c
  simp only at g
  pointwise [tV]
  refine congrArg _ (congrArg rs (congrArg (ix2 r) (Fin.ext ?_)))
  show (gIdx (BitVec.ofNat 32 (4 * j.val)) (ix2 r c)).toNat % 128 = _
  rw [g, BitVec.toNat_ofNat]
  show (4 * j.val + c.val / 32) % 2 ^ 32 % 128 = 4 * j.val + c.val / 32
  omega
theorem uV_apply (rs : Vec Ideal S128x128 .f32) (w : Vec Ideal S128x64 .f32) (r : Fin 128) (c : Fin 64) :
    uV 88#32 rs w (ix2 r c) = (w (ix2 r c) : EReal) * rs (ix2 r ⟨88 + c.val / 32, by omega⟩) := by
  have g := gIdx_apply ⟨22, by omega⟩ r ⟨c.val, by omega⟩
  pointwise [uV]
  refine congrArg _ (congrArg rs (congrArg (ix2 r) (Fin.ext ?_)))
  show (gIdx (BitVec.ofNat 32 (4 * 22)) (ix2 r ⟨c.val, _⟩)).toNat % 128 = _
  rw [g, BitVec.toNat_ofNat]
  show (4 * 22 + c.val / 32) % 2 ^ 32 % 128 = 88 + c.val / 32
  omega
theorem tD_apply (h : Fin 2) (t : ℕ) (ht : t < 2) (acc : FVec Ideal S256x256 .f32) (syc : Vec Ideal S128x128 .f32) (sx : Vec Ideal S1x128 .f32) (r c : Fin 128) :
    tD h t ht acc syc sx (ix2 r c) = (acc (ix2 ⟨128 * h.val + r.val, by omega⟩ ⟨128 * t + c.val, by omega⟩) : EReal) * syc (ix2 r c) * sx (ix2 0 c) := by
  pointwise [tD]
theorem uD_apply (h : Fin 2) (acc : FVec Ideal S256x64 .f32) (syc : Vec Ideal S128x64 .f32) (sx : Vec Ideal S1x64 .f32) (r : Fin 128) (c : Fin 64) :
    uD h acc syc sx (ix2 r c) = (acc (ix2 ⟨128 * h.val + r.val, by omega⟩ c) : EReal) * syc (ix2 r c) * sx (ix2 0 c) := by
  pointwise [uD]
theorem tP_apply (v d : FVec Ideal S128x128 .f32) (r : Fin 32) (c : Fin 128) :
    tP v d (ix3 0 r c) = ∑ k : Fin 4, (facS (v (ix2 c ⟨32 * (r.val / 8) + 8 * k.val + r.val % 8, by omega⟩)) : EReal) * d (ix2 c ⟨32 * (r.val / 8) + 8 * k.val + r.val % 8, by omega⟩) := by
  pointwise [tP, vfac_apply]
  refine Finset.sum_congr rfl fun k _ => ?_
  have e : r.val / 8 * 32 + k.val * 8 + r.val % 8 = 32 * (r.val / 8) + 8 * k.val + r.val % 8 := by omega
  simp only [e]
theorem uP_apply (v d : FVec Ideal S128x64 .f32) (r : Fin 16) (c : Fin 128) :
    uP v d (ix3 0 r c) = ∑ k : Fin 4, (facS (v (ix2 c ⟨32 * (r.val / 8) + 8 * k.val + r.val % 8, by omega⟩)) : EReal) * d (ix2 c ⟨32 * (r.val / 8) + 8 * k.val + r.val % 8, by omega⟩) := by
  pointwise [uP, vfac_apply]
  refine Finset.sum_congr rfl fun k _ => ?_
  have e : r.val / 8 * 32 + k.val * 8 + r.val % 8 = 32 * (r.val / 8) + 8 * k.val + r.val % 8 := by omega
  simp only [e]
theorem dite_of {p : Prop} [Decidable p] {α : Type} {a : p → α} {b : ¬p → α} {c : α} (h1 : ∀ h, a h = c) (h2 : ∀ h, b h = c) : dite p a b = c := by
  by_cases h : p
  · rw [dif_pos h, h1]
  · rw [dif_neg h, h2]
theorem dsRow_apply (q : Fin 12 → Fin 8 → Vec Ideal S1x8x128 .f32) (b : Fin 12) (i : Fin 8) (r : Fin 128) (g : Fin 90) (hb : b.val = g.val / 8) (hi : i.val = g.val % 8) :
    dsRow (q b) (ix2 i r) = ∑ k : Fin 8, (q ⟨g.val / 8, by omega⟩ k (ix3 0 ⟨g.val % 8, by omega⟩ r) : EReal) := by
  rw [show (⟨g.val / 8, by omega⟩ : Fin 12) = b from Fin.ext hb.symm, show (⟨g.val % 8, by omega⟩ : Fin 8) = i from Fin.ext hi.symm]
  rw [Fin.sum_univ_eight]
  pointwise [dsRow]
theorem dsTile_apply (q : Fin 12 → Fin 8 → Vec Ideal S1x8x128 .f32) (r : Fin 128) (g : Fin 90) :
    dsTile q (ix2 r g) = (∑ k : Fin 8, (q ⟨g.val / 8, by omega⟩ k (ix3 0 ⟨g.val % 8, by omega⟩ r) : EReal)) * Ideal.ofBits .f32 0x3D88D677#32 := by
  pointwise [dsTile]
  refine congrArg (· * Ideal.ofBits .f32 0x3D88D677#32) ?_
  refine dite_of (fun h => dsRow_apply q _ _ r g (show 0 = g.val / 8 by omega) (show g.val = g.val % 8 by omega)) fun h => ?_
  refine dite_of (fun h => dsRow_apply q _ _ r g (show 1 = g.val / 8 by omega) (show g.val - 8 = g.val % 8 by omega)) fun h => ?_
  refine dite_of (fun h => dsRow_apply q _ _ r g (show 2 = g.val / 8 by omega) (show g.val - 8 - 8 = g.val % 8 by omega)) fun h => ?_
  refine dite_of (fun h => dsRow_apply q _ _ r g (show 3 = g.val / 8 by omega) (show g.val - 8 - 8 - 8 = g.val % 8 by omega)) fun h => ?_
  refine dite_of (fun h => dsRow_apply q _ _ r g (show 4 = g.val / 8 by omega) (show g.val - 8 - 8 - 8 - 8 = g.val % 8 by omega)) fun h => ?_
  refine dite_of (fun h => dsRow_apply q _ _ r g (show 5 = g.val / 8 by omega) (show g.val - 8 - 8 - 8 - 8 - 8 = g.val % 8 by omega)) fun h => ?_
  refine dite_of (fun h => dsRow_apply q _ _ r g (show 6 = g.val / 8 by omega) (show g.val - 8 - 8 - 8 - 8 - 8 - 8 = g.val % 8 by omega)) fun h => ?_
  refine dite_of (fun h => dsRow_apply q _ _ r g (show 7 = g.val / 8 by omega) (show g.val - 8 - 8 - 8 - 8 - 8 - 8 - 8 = g.val % 8 by omega)) fun h => ?_
  refine dite_of (fun h => dsRow_apply q _ _ r g (show 8 = g.val / 8 by omega) (show g.val - 8 - 8 - 8 - 8 - 8 - 8 - 8 - 8 = g.val % 8 by omega)) fun h => ?_
  refine dite_of (fun h => dsRow_apply q _ _ r g (show 9 = g.val / 8 by omega) (show g.val - 8 - 8 - 8 - 8 - 8 - 8 - 8 - 8 - 8 = g.val % 8 by omega)) fun h => ?_
  refine dite_of (fun h => dsRow_apply q _ _ r g (show 10 = g.val / 8 by omega) (show g.val - 8 - 8 - 8 - 8 - 8 - 8 - 8 - 8 - 8 - 8 = g.val % 8 by omega)) fun h => ?_
  exact dsRow_apply q _ _ r g (show 11 = g.val / 8 by omega) (show g.val - 8 - 8 - 8 - 8 - 8 - 8 - 8 - 8 - 8 - 8 - 8 = g.val % 8 by omega)

end Cert.KernelIdeal.Hand
end
-- ==== Proof.Blocks.lean ====
/- The body's stores are the point's blocks, given what the point's reads hold. -/
module

public import proofs.«01_k».proof.Proof.Tiles

@[expose] public section

set_option maxRecDepth 16384

noncomputable section

namespace Cert.KernelIdeal.Hand

open Cert.KernelIdeal.Gen Cert.Quant
open Idealize.ShloMosaic Idealize.ShloMosaic.TcCoe Idealize.ShloMosaic.Tactic

/-- A unit-stride rectangle of a plane places an index at its offsets. -/
theorem emb2 {n m : ℕ} (a b : ℕ) (sz : Fin 2 → ℕ) (inb) (x : (Rect.unit (s := ⟨2, ![n, m]⟩) ![a, b] sz inb).shape.Idx) :
    ((Rect.unit (s := ⟨2, ![n, m]⟩) ![a, b] sz inb).emb x 0).val = a + (x 0).val ∧ ((Rect.unit (s := ⟨2, ![n, m]⟩) ![a, b] sz inb).emb x 1).val = b + (x 1).val := by
  constructor
  · show a + 1 * (x 0).val = _; omega
  · show b + 1 * (x 1).val = _; omega
theorem emb3 {n m k : ℕ} (a b c : ℕ) (sz : Fin 3 → ℕ) (inb) (x : (Rect.unit (s := ⟨3, ![n, m, k]⟩) ![a, b, c] sz inb).shape.Idx) :
    ((Rect.unit (s := ⟨3, ![n, m, k]⟩) ![a, b, c] sz inb).emb x 0).val = a + (x 0).val ∧ ((Rect.unit (s := ⟨3, ![n, m, k]⟩) ![a, b, c] sz inb).emb x 1).val = b + (x 1).val
      ∧ ((Rect.unit (s := ⟨3, ![n, m, k]⟩) ![a, b, c] sz inb).emb x 2).val = c + (x 2).val := by
  refine ⟨?_, ?_, ?_⟩
  · show a + 1 * (x 0).val = _; omega
  · show b + 1 * (x 1).val = _; omega
  · show c + 1 * (x 2).val = _; omega
theorem mem2 {n m : ℕ} (a b p q : ℕ) (inb) (y : (⟨2, ![n, m]⟩ : Shape).Idx) (h0 : a ≤ (y 0).val ∧ (y 0).val < a + p) (h1 : b ≤ (y 1).val ∧ (y 1).val < b + q) :
    y ∈ (Rect.unit (s := ⟨2, ![n, m]⟩) ![a, b] ![p, q] inb).set :=
  Rect.mem_set_unit.2 fun i => match i with
    | ⟨0, _⟩ => h0
    | ⟨1, _⟩ => h1
theorem mem3 {n m k : ℕ} (a b c p q r : ℕ) (inb) (y : (⟨3, ![n, m, k]⟩ : Shape).Idx) (h0 : a ≤ (y 0).val ∧ (y 0).val < a + p) (h1 : b ≤ (y 1).val ∧ (y 1).val < b + q)
    (h2 : c ≤ (y 2).val ∧ (y 2).val < c + r) :
    y ∈ (Rect.unit (s := ⟨3, ![n, m, k]⟩) ![a, b, c] ![p, q, r] inb).set :=
  Rect.mem_set_unit.2 fun i => match i with
    | ⟨0, _⟩ => h0
    | ⟨1, _⟩ => h1
    | ⟨2, _⟩ => h2

theorem mem_tiles : ∀ p : Fin 2 × Fin 22, p ∈ tiles := by decide
theorem mem_strips : ∀ p : Fin 2 × Fin 4, p ∈ strips := by decide
theorem mem_chunks : ∀ p : Fin 11, p ∈ ([10, 9, 8, 7, 6, 5, 4, 3, 2, 1, 0] : List (Fin 11)) := by decide

section
variable (R : Reads Ideal) (x0 : Vec Ideal S1024x2880 .bf16) (x1 : Vec Ideal S1024x256 .bf16) (x2 : Vec Ideal S256x2880 .f32) (x3 : Vec Ideal S256x90 .f32)

/-- The reads hold the point's blocks: the reciprocal scales, the weights, the two scales, the product. -/
structure Reads.OK : Prop where
  rs : ∀ (h : Fin 2) (p l : Fin 128) (row : Fin 256) (g : Fin 90), row.val = 128 * h.val + p.val → g.val = l.val →
    R.rs h (ix2 p l) = Scalar.divf (F := Ideal) (φ := .f32) (Scalar.ofBits .f32 0x3F800000#32) (x3 (ix2 row g))
  w : ∀ (h : Fin 2) (j : Fin 22) (p q : Fin 128) (row : Fin 256) (col : Fin 2880), row.val = 128 * h.val + p.val → col.val = 128 * j.val + q.val → R.w h j (ix2 p q) = x2 (ix2 row col)
  w' : ∀ (h : Fin 2) (p : Fin 128) (q : Fin 64) (row : Fin 256) (col : Fin 2880), row.val = 128 * h.val + p.val → col.val = 2816 + q.val → R.w' h (ix2 p q) = x2 (ix2 row col)
  syc : ∀ (h : Fin 2) (p q : Fin 128) (row : Fin 256), row.val = 128 * h.val + p.val → R.syc h (ix2 p q) = scaleOf my x1 row
  syc' : ∀ (h : Fin 2) (p : Fin 128) (q : Fin 64) (row : Fin 256), row.val = 128 * h.val + p.val → R.syc' h (ix2 p q) = scaleOf my x1 row
  sx : ∀ (j : Fin 22) (q : Fin 128) (col : Fin 2880), col.val = 128 * j.val + q.val → R.sx j (ix2 0 q) = scaleOf mx x0 col
  sx' : ∀ (q : Fin 64) (col : Fin 2880), col.val = 2816 + q.val → R.sx' (ix2 0 q) = scaleOf mx x0 col
  acc : ∀ (c : Fin 11) (p q : Fin 256) (col : Fin 2880), col.val = 256 * c.val + q.val → R.acc c (ix2 p q) = sAcc x0 x1 p col
  acc' : ∀ (p : Fin 256) (q : Fin 64) (col : Fin 2880), col.val = 2816 + q.val → R.acc' (ix2 p q) = sAcc x0 x1 p col

variable {R x0 x1 x2 x3} (ok : R.OK x0 x1 x2 x3)
include ok

theorem Reads.OK.tv (h : Fin 2) (j : Fin 22) (p q : Fin 128) (row : Fin 256) (col : Fin 2880) (hr : row.val = 128 * h.val + p.val) (hc : col.val = 128 * j.val + q.val) :
    R.tv h j (ix2 p q) = sV x2 x3 row col := by
  unfold Reads.tv sV
  rw [tV_apply, ok.w h j p q row col hr hc, ok.rs h p _ row ⟨col.val / 32, by omega⟩ hr (by show col.val / 32 = 4 * j.val + q.val / 32; omega)]
theorem Reads.OK.uv (h : Fin 2) (p : Fin 128) (q : Fin 64) (row : Fin 256) (col : Fin 2880) (hr : row.val = 128 * h.val + p.val) (hc : col.val = 2816 + q.val) :
    R.uv h (ix2 p q) = sV x2 x3 row col := by
  unfold Reads.uv sV
  rw [uV_apply, ok.w' h p q row col hr hc, ok.rs h p _ row ⟨col.val / 32, by omega⟩ hr (by show col.val / 32 = 88 + q.val / 32; omega)]
theorem Reads.OK.td (h : Fin 2) (j : Fin 22) (p q : Fin 128) (row : Fin 256) (col : Fin 2880) (hr : row.val = 128 * h.val + p.val) (hc : col.val = 128 * j.val + q.val) :
    R.td h j (ix2 p q) = sD x0 x1 row col := by
  unfold Reads.td sD
  rw [tD_apply, ok.syc h p q row hr, ok.sx j q col hc, ok.acc _ _ _ col (by show col.val = 256 * (j.val / 2) + (128 * (j.val % 2) + q.val); omega),
    show (⟨128 * h.val + p.val, by omega⟩ : Fin 256) = row from Fin.ext hr.symm]
theorem Reads.OK.ud (h : Fin 2) (p : Fin 128) (q : Fin 64) (row : Fin 256) (col : Fin 2880) (hr : row.val = 128 * h.val + p.val) (hc : col.val = 2816 + q.val) :
    R.ud h (ix2 p q) = sD x0 x1 row col := by
  unfold Reads.ud sD
  rw [uD_apply, ok.syc' h p q row hr, ok.sx' q col hc, ok.acc' _ _ col hc, show (⟨128 * h.val + p.val, by omega⟩ : Fin 256) = row from Fin.ext hr.symm]

theorem Reads.OK.dw_pieces : ∀ p ∈ R.dw, ∀ x : p.1.shape.Idx, p.2 x = bDW x0 x1 x2 x3 (p.1.emb x) := by
  have hU : ∀ h, ∀ x : S128x64.Idx, vgrad (R.uv h) (R.ud h) x = bDW x0 x1 x2 x3 ((Rect.unit (s := S256x2880) ![128 * h.val, 2816] S128x64.size (inbU h)).emb x) := by
    intro h x
    obtain ⟨p, q, rfl⟩ : ∃ (p : Fin 128) (q : Fin 64), x = ix2 p q := ⟨x 0, x 1, eq_ix2 x⟩
    obtain ⟨e0, e1⟩ := emb2 (n := 256) (m := 2880) (128 * h.val) 2816 S128x64.size (inbU h) (ix2 p q)
    rw [vgrad_apply, ok.uv h p q _ _ e0 e1, ok.ud h p q _ _ e0 e1]
    rfl
  have hT : ∀ (h : Fin 2) (t : Fin 22), ∀ x : S128x128.Idx, vgrad (R.tv h t) (R.td h t) x = bDW x0 x1 x2 x3 ((Rect.unit (s := S256x2880) ![128 * h.val, 128 * t.val] S128x128.size (inbT h t)).emb x) := by
    intro h t x
    obtain ⟨p, q, rfl⟩ : ∃ (p : Fin 128) (q : Fin 128), x = ix2 p q := ⟨x 0, x 1, eq_ix2 x⟩
    obtain ⟨e0, e1⟩ := emb2 (n := 256) (m := 2880) (128 * h.val) (128 * t.val) S128x128.size (inbT h t) (ix2 p q)
    rw [vgrad_apply, ok.tv h t p q _ _ e0 e1, ok.td h t p q _ _ e0 e1]
    rfl
  intro p hp
  simp only [Reads.dw, List.mem_cons, List.mem_map] at hp
  rcases hp with rfl | rfl | ⟨t, _, rfl⟩
  · exact hU 1
  · exact hU 0
  · exact hT t.1 t.2

omit ok in
theorem dw_cover (R : Reads Ideal) (y : S256x2880.Idx) : ∃ p ∈ R.dw, y ∈ p.1.set := by
  have h0 : (y 0).val < 256 := (y 0).isLt
  have h1 : (y 1).val < 2880 := (y 1).isLt
  by_cases hc : (y 1).val < 2816
  · refine ⟨R.dwT (⟨(y 0).val / 128, by omega⟩, ⟨(y 1).val / 128, by omega⟩), ?_, ?_⟩
    · simp only [Reads.dw, List.mem_cons, List.mem_map]
      exact .inr (.inr ⟨_, mem_tiles _, rfl⟩)
    · exact mem2 (n := 256) (m := 2880) (128 * ((y 0).val / 128)) (128 * ((y 1).val / 128)) 128 128 (inbT ⟨(y 0).val / 128, by omega⟩ ⟨(y 1).val / 128, by omega⟩) y (by omega) (by omega)
  · have m (h : Fin 2) : R.dwU h ∈ R.dw := by
      simp only [Reads.dw, List.mem_cons]
      match h with
      | ⟨0, _⟩ => exact .inr (.inl rfl)
      | ⟨1, _⟩ => exact .inl rfl
    exact ⟨_, m ⟨(y 0).val / 128, by omega⟩, mem2 (n := 256) (m := 2880) (128 * ((y 0).val / 128)) 2816 128 64 (inbU ⟨(y 0).val / 128, by omega⟩) y (by omega) (by omega)⟩

/-- What a view of the weight gradient's block reads after the stores. -/
theorem Reads.OK.dw_read {sig : RefSig} {κ : Kind} {sp : Space} (v : View sig κ sp S256x2880 .f32) (f : v.ty.Contents (Elt Ideal)) :
    v.read (Elt Ideal) (v.writes (Elt Ideal) f R.dw) = bDW x0 x1 x2 x3 :=
  funext fun y => View.read_writes_apply_of_pieces v f _ _ ok.dw_pieces y (dw_cover R y)

/-! ## The group sums -/

end
/-- What the rows of the group sums hold: row `8 g + j` the group `g`'s `j`-th partial sum. -/
def gPart (x0 : Vec Ideal S1024x2880 .bf16) (x1 : Vec Ideal S1024x256 .bf16) (x2 : Vec Ideal S256x2880 .f32) (x3 : Vec Ideal S256x90 .f32) : S2x768x128.Idx → EReal := fun y =>
  if h : (y 1).val < 720 then
    sPart x0 x1 x2 x3 ⟨128 * (y 0).val + (y 2).val, by have h0 : (y 0).val < 2 := (y 0).isLt; have h2 : (y 2).val < 128 := (y 2).isLt; omega⟩
      ⟨(y 1).val / 8, by omega⟩ ⟨(y 1).val % 8, by omega⟩
  else 0

section
variable {R : Reads Ideal} {x0 : Vec Ideal S1024x2880 .bf16} {x1 : Vec Ideal S1024x256 .bf16} {x2 : Vec Ideal S256x2880 .f32} {x3 : Vec Ideal S256x90 .f32} (ok : R.OK x0 x1 x2 x3)
include ok

omit ok in
theorem gPart_at (y : S2x768x128.Idx) (h : Fin 2) (p : Fin 128) (g : Fin 90) (j : Fin 8) (row : Fin 256) (e0 : (y 0).val = h.val) (e1 : (y 1).val = 8 * g.val + j.val) (e2 : (y 2).val = p.val)
    (hr : row.val = 128 * h.val + p.val) : gPart x0 x1 x2 x3 y = sPart x0 x1 x2 x3 row g j := by
  unfold gPart
  rw [dif_pos (by omega)]
  congr 1
  · exact Fin.ext (by simp only [e0, e2, hr])
  · exact Fin.ext (by show (y 1).val / 8 = g.val; omega)
  · exact Fin.ext (by show (y 1).val % 8 = j.val; omega)

theorem Reads.OK.part_pieces : ∀ p ∈ R.part, ∀ x : p.1.shape.Idx, p.2 x = gPart x0 x1 x2 x3 (p.1.emb x) := by
  have hU : ∀ h : Fin 2, ∀ x : S1x16x128.Idx, uP (R.uv h) (R.ud h) x = gPart x0 x1 x2 x3 ((Rect.unit (s := S2x768x128) ![h.val, 704, 0] S1x16x128.size (inbPU h)).emb x) := by
    intro h x
    obtain ⟨z, r, q, rfl⟩ : ∃ (z : Fin 1) (r : Fin 16) (q : Fin 128), x = ix3 z r q := ⟨x 0, x 1, x 2, eq_ix3 x⟩
    have b1 : r.val < 16 := r.isLt
    have b2 : q.val < 128 := q.isLt
    obtain rfl : z = 0 := Subsingleton.elim _ _
    obtain ⟨e0, e1, e2⟩ := emb3 (n := 2) (m := 768) (k := 128) h.val (704) 0 S1x16x128.size (inbPU h) (ix3 0 r q)
    simp only [ix3_0, ix3_1, ix3_2] at e0 e1 e2
    rw [gPart_at _ h q ⟨88 + r.val / 8, by omega⟩ ⟨r.val % 8, by omega⟩ ⟨128 * h.val + q.val, by omega⟩
      (e0.trans (Nat.add_zero _)) (e1.trans (by show 704 + r.val = 8 * (88 + r.val / 8) + r.val % 8; omega)) (e2.trans (Nat.zero_add _)) rfl]
    unfold sPart sFD
    rw [uP_apply]
    refine Finset.sum_congr rfl fun k _ => ?_
    rw [ok.uv h q _ ⟨128 * h.val + q.val, by omega⟩ (gcol ⟨88 + r.val / 8, by omega⟩ ⟨r.val % 8, by omega⟩ k) rfl (by show 32 * (88 + r.val / 8) + 8 * k.val + r.val % 8 = 2816 + (32 * (r.val / 8) + 8 * k.val + r.val % 8); omega),
      ok.ud h q _ ⟨128 * h.val + q.val, by omega⟩ (gcol ⟨88 + r.val / 8, by omega⟩ ⟨r.val % 8, by omega⟩ k) rfl (by show 32 * (88 + r.val / 8) + 8 * k.val + r.val % 8 = 2816 + (32 * (r.val / 8) + 8 * k.val + r.val % 8); omega)]
  have hT : ∀ (h : Fin 2) (t : Fin 22), ∀ x : S1x32x128.Idx, tP (R.tv h t) (R.td h t) x = gPart x0 x1 x2 x3 ((Rect.unit (s := S2x768x128) ![h.val, 32 * t.val, 0] S1x32x128.size (inbPT h t)).emb x) := by
    intro h t x
    obtain ⟨z, r, q, rfl⟩ : ∃ (z : Fin 1) (r : Fin 32) (q : Fin 128), x = ix3 z r q := ⟨x 0, x 1, x 2, eq_ix3 x⟩
    have b1 : r.val < 32 := r.isLt
    have b2 : q.val < 128 := q.isLt
    obtain rfl : z = 0 := Subsingleton.elim _ _
    obtain ⟨e0, e1, e2⟩ := emb3 (n := 2) (m := 768) (k := 128) h.val (32 * t.val) 0 S1x32x128.size (inbPT h t) (ix3 0 r q)
    simp only [ix3_0, ix3_1, ix3_2] at e0 e1 e2
    rw [gPart_at _ h q ⟨4 * t.val + r.val / 8, by omega⟩ ⟨r.val % 8, by omega⟩ ⟨128 * h.val + q.val, by omega⟩
      (e0.trans (Nat.add_zero _)) (e1.trans (by show 32 * t.val + r.val = 8 * (4 * t.val + r.val / 8) + r.val % 8; omega)) (e2.trans (Nat.zero_add _)) rfl]
    unfold sPart sFD
    rw [tP_apply]
    refine Finset.sum_congr rfl fun k _ => ?_
    rw [ok.tv h t q _ ⟨128 * h.val + q.val, by omega⟩ (gcol ⟨4 * t.val + r.val / 8, by omega⟩ ⟨r.val % 8, by omega⟩ k) rfl (by show 32 * (4 * t.val + r.val / 8) + 8 * k.val + r.val % 8 = 128 * t.val + (32 * (r.val / 8) + 8 * k.val + r.val % 8); omega),
      ok.td h t q _ ⟨128 * h.val + q.val, by omega⟩ (gcol ⟨4 * t.val + r.val / 8, by omega⟩ ⟨r.val % 8, by omega⟩ k) rfl (by show 32 * (4 * t.val + r.val / 8) + 8 * k.val + r.val % 8 = 128 * t.val + (32 * (r.val / 8) + 8 * k.val + r.val % 8); omega)]
  intro p hp
  simp only [Reads.part, List.mem_cons, List.mem_map] at hp
  rcases hp with rfl | rfl | ⟨t, _, rfl⟩
  · exact hU 1
  · exact hU 0
  · exact hT t.1 t.2

omit ok in
theorem part_cover (R : Reads Ideal) (y : S2x768x128.Idx) (hy : (y 1).val < 720) : ∃ p ∈ R.part, y ∈ p.1.set := by
  have h0 : (y 0).val < 2 := (y 0).isLt
  have h2 : (y 2).val < 128 := (y 2).isLt
  by_cases hc : (y 1).val < 704
  · refine ⟨R.partT (⟨(y 0).val, h0⟩, ⟨(y 1).val / 32, by omega⟩), ?_, ?_⟩
    · simp only [Reads.part, List.mem_cons, List.mem_map]
      exact .inr (.inr ⟨_, mem_tiles _, rfl⟩)
    · exact mem3 (n := 2) (m := 768) (k := 128) (y 0).val (32 * ((y 1).val / 32)) 0 1 32 128 (inbPT ⟨(y 0).val, h0⟩ ⟨(y 1).val / 32, by omega⟩) y (by omega) (by omega) (by omega)
  · have m (h : Fin 2) : R.partU h ∈ R.part := by
      simp only [Reads.part, List.mem_cons]
      match h with
      | ⟨0, _⟩ => exact .inr (.inl rfl)
      | ⟨1, _⟩ => exact .inl rfl
    exact ⟨_, m ⟨(y 0).val, h0⟩, mem3 (n := 2) (m := 768) (k := 128) (y 0).val 704 0 1 16 128 (inbPU ⟨(y 0).val, h0⟩) y (by omega) (by omega) (by omega)⟩

theorem Reads.OK.part_read {sig : RefSig} {κ : Kind} {sp : Space} (v : View sig κ sp S2x768x128 .f32) (f : v.ty.Contents (Elt Ideal)) (y : S2x768x128.Idx) (hy : (y 1).val < 720) :
    v.read (Elt Ideal) (v.writes (Elt Ideal) f R.part) y = gPart x0 x1 x2 x3 y :=
  View.read_writes_apply_of_pieces v f _ _ ok.part_pieces y (part_cover R y hy)
end

/-- The strided reads of the group sums give the scale gradient's block. -/
theorem ds_read (x0 : Vec Ideal S1024x2880 .bf16) (x1 : Vec Ideal S1024x256 .bf16) (x2 : Vec Ideal S256x2880 .f32) (x3 : Vec Ideal S256x90 .f32)
    (q : Fin 2 → Fin 12 → Fin 8 → Vec Ideal S1x8x128 .f32)
    (hq : ∀ (h : Fin 2) (b : Fin 12) (k i : Fin 8) (p : Fin 128) (row : Fin 256) (g : Fin 90), row.val = 128 * h.val + p.val → g.val = 8 * b.val + i.val →
      q h b k (ix3 0 i p) = sPart x0 x1 x2 x3 row g k)
    {sig : RefSig} {κ : Kind} {sp : Space} (v : View sig κ sp S256x90 .f32) (f : v.ty.Contents (Elt Ideal)) :
    v.read (Elt Ideal) (v.writes (Elt Ideal) f (dsPieces q)) = bDS x0 x1 x2 x3 := by
  have hP : ∀ h : Fin 2, ∀ x : S128x90.Idx, dsTile (q h) x = bDS x0 x1 x2 x3 ((Rect.unit (s := S256x90) ![128 * h.val, 0] S128x90.size (inbD h)).emb x) := by
    intro h x
    obtain ⟨p, g, rfl⟩ : ∃ (p : Fin 128) (g : Fin 90), x = ix2 p g := ⟨x 0, x 1, eq_ix2 x⟩
    obtain ⟨e0, e1⟩ := emb2 (n := 256) (m := 90) (128 * h.val) 0 S128x90.size (inbD h) (ix2 p g)
    simp only [ix2_0, ix2_1] at e0 e1
    unfold bDS
    rw [dsTile_apply]
    refine congrArg (· * Ideal.ofBits .f32 0x3D88D677#32) (Finset.sum_congr rfl fun k _ => ?_)
    exact hq h _ k _ p _ _ e0 (e1.trans (by show 0 + g.val = 8 * (g.val / 8) + g.val % 8; omega))
  funext y
  refine View.read_writes_apply_of_pieces v f _ _ ?_ y ?_
  · intro p hp
    simp only [dsPieces, List.mem_cons, List.not_mem_nil, or_false] at hp
    rcases hp with rfl | rfl
    · exact hP 1
    · exact hP 0
  · have h0 : (y 0).val < 256 := (y 0).isLt
    have h1 : (y 1).val < 90 := (y 1).isLt
    by_cases hc : (y 0).val < 128
    · exact ⟨_, List.mem_cons_of_mem _ List.mem_cons_self, mem2 (n := 256) (m := 90) (128 * (0 : Fin 2).val) 0 128 90 (inbD 0) y (by simp; omega) (by omega)⟩
    · exact ⟨_, List.mem_cons_self, mem2 (n := 256) (m := 90) (128 * (1 : Fin 2).val) 0 128 90 (inbD 1) y (by simp; omega) (by omega)⟩

end Cert.KernelIdeal.Hand
end
-- ==== Proof.RunB.lean ====
/- The kernel's body at the points after the first, run from its buffers' contents to the pieces its stores leave. -/
module

public import proofs.«01_k».proof.Proof.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large)
set_option maxHeartbeats 12000000 in
/-- The body run at a point where the branch is not taken. The witness is what the stores into each output's buffer
    leave there, as pieces, last first; the scratch buffers end at some contents. -/
noncomputable def runB (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : ¬cond0_0 i)
    (x0 : Vec F S1024x2880 .bf16) (x1 : Vec F S1024x256 .bf16) (x2 : Vec F S256x2880 .f32) (x3 : Vec F S256x90 .f32) (x6 : Vec F S1024x2880 .fp8e4m3) (x7 : Vec F S1x2880 .f32) (xs1 : Vec F S256x128 .f32) (xs3 : Vec F S2x768x128 .f32) (xs4 : Vec F S8x128 .i32) :
    { Ls : List (View.Piece (Elt F) S256x2880 .f32) × List (View.Piece (Elt F) S256x90 .f32) × List (View.Piece (Elt F) S1024x256 .fp8e5m2) × List (View.Piece (Elt F) S1x256 .f32) × List (View.Piece (Elt F) S256x1440 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1 ∗ (∃ d, owns (c : Thread nD τ) arg14 fullShare d) ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (Ls.1)) ∗ (∃ f, arg6.view.loc (c : Thread nD τ) ↦[arg6.view.set]{fullShare} arg6.view.writes (Elt F) f (Ls.2.1)) ∗ owns (c : Thread nD τ) arg7 fullShare x6 ∗ owns (c : Thread nD τ) arg8 fullShare x7 ∗ (∃ f, arg9.view.loc (c : Thread nD τ) ↦[arg9.view.set]{fullShare} arg9.view.writes (Elt F) f (Ls.2.2.1)) ∗ (∃ f, arg10.view.loc (c : Thread nD τ) ↦[arg10.view.set]{fullShare} arg10.view.writes (Elt F) f (Ls.2.2.2.1)) ∗ (∃ f, arg11.view.loc (c : Thread nD τ) ↦[arg11.view.set]{fullShare} arg11.view.writes (Elt F) f (Ls.2.2.2.2)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsq_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_⟩, fun E K => ?run⟩
  case run =>
    simp only [cc0_lsq_backward_eq_skeleton]; unfold cc0_lsq_backward_skel
    simp only [k0_part180_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part181_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part182_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%d14, %f14, -, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg13.eq_unread hf13; obtain rfl := harg15.eq_unread hf15; obtain rfl := harg16.eq_unread hf16
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    · iexists _, _; isplitr; swap; · iexact H16
      ipureintro; rfl

end Cert.KernelIdeal.Hand

end
-- ==== Proof.RunA.lean ====
/- The kernel's body at the first point, run from its buffers' contents to the pieces its stores leave. -/
module

public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- (the run's proof term is large)
set_option maxHeartbeats 12000000 in
/-- The body run at a point where the branch is taken. The witness is what the stores into each output's buffer
    leave there, as pieces, last first; the scratch buffers end at some contents. -/
noncomputable def runA (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : cond0_0 i)
    (x0 : Vec F S1024x2880 .bf16) (x1 : Vec F S1024x256 .bf16) (x2 : Vec F S256x2880 .f32) (x3 : Vec F S256x90 .f32) :
    { Ls : List (View.Piece (Elt F) S256x2880 .f32) × List (View.Piece (Elt F) S256x90 .f32) × List (View.Piece (Elt F) S1024x2880 .fp8e4m3) × List (View.Piece (Elt F) S1x2880 .f32) × List (View.Piece (Elt F) S1024x256 .fp8e5m2) × List (View.Piece (Elt F) S1x256 .f32) × List (View.Piece (Elt F) S256x1440 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (Ls.1)) ∗ (∃ f, arg6.view.loc (c : Thread nD τ) ↦[arg6.view.set]{fullShare} arg6.view.writes (Elt F) f (Ls.2.1)) ∗ (∃ f, arg7.view.loc (c : Thread nD τ) ↦[arg7.view.set]{fullShare} arg7.view.writes (Elt F) f (Ls.2.2.1)) ∗ (∃ f, arg8.view.loc (c : Thread nD τ) ↦[arg8.view.set]{fullShare} arg8.view.writes (Elt F) f (Ls.2.2.2.1)) ∗ (∃ f, arg9.view.loc (c : Thread nD τ) ↦[arg9.view.set]{fullShare} arg9.view.writes (Elt F) f (Ls.2.2.2.2.1)) ∗ (∃ f, arg10.view.loc (c : Thread nD τ) ↦[arg10.view.set]{fullShare} arg10.view.writes (Elt F) f (Ls.2.2.2.2.2.1)) ∗ (∃ f, arg11.view.loc (c : Thread nD τ) ↦[arg11.view.set]{fullShare} arg11.view.writes (Elt F) f (Ls.2.2.2.2.2.2)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsq_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_, ?_, ?_, ?_, ?_⟩, fun E K => ?run⟩
  case run =>
    simp only [cc0_lsq_backward_eq_skeleton]; unfold cc0_lsq_backward_skel
    simp only [k0_part180_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part181_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part182_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    · iexists _, _; isplitr; swap; · iexact H16
      ipureintro; rfl

end Cert.KernelIdeal.Hand

end
-- ==== Proof.StoresB.lean ====
/- The stores of the points after the first, as lists over the tiles. -/
module

public import proofs.«01_k».proof.Proof.RunB
public import proofs.«01_k».proof.Proof.Tile

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

section
variable (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : ¬cond0_0 i)
    (x0 : Vec F S1024x2880 .bf16) (x1 : Vec F S1024x256 .bf16) (x2 : Vec F S256x2880 .f32) (x3 : Vec F S256x90 .f32) (x6 : Vec F S1024x2880 .fp8e4m3) (x7 : Vec F S1x2880 .f32) (xs1 : Vec F S256x128 .f32) (xs3 : Vec F S2x768x128 .f32) (xs4 : Vec F S8x128 .i32)

/-- The block of output gradients, its scales and its quantised transpose, from the window's buffer. -/
def dyRd : Vec F S1024x256 .bf16 :=
  View.readAt (Elt F) arg2.view (Rect.unit ![0, 0] S1024x256.size inb_S1024x256_S1024x256_0_0).toLoadRect (harg2.unread x1)
def syList : List (View.Piece (Elt F) S256x128 .f32) :=
  [⟨Rect.unit ![0, 0] S256x128.size inb_S256x128_S256x128_0_0, k0_pay76 (k0_pay71 (dyRd arg2 harg2 x1))⟩]
def dytList : List (View.Piece (Elt F) S256x1024 .fp8e5m2) :=
  [⟨Rect.unit ![0, 0] S256x1024.size inb_S256x1024_S256x1024_0_0, k0_pay75 (k0_pay72 (dyRd arg2 harg2 x1)) (Scalar.ofBits .bf16 0xC760#16)⟩]
def dytRd : Vec F S256x1024 .fp8e5m2 :=
  arg12.view.readCov (dytList arg2 harg2 x1) (Rect.unit ![0, 0] S256x1024.size inb_S256x1024_S256x1024_0_0).toLoadRect
def rsPiece : View.Piece (Elt F) S256x128 .f32 :=
  ⟨Rect.unit ![0, 0] S256x90.size inb_S256x128_S256x90_0_0,
    k0_pay77 (View.readAt (Elt F) arg4.view (Rect.unit ![0, 0] S256x90.size inb_S256x90_S256x90_0_0).toLoadRect (harg4.unread x3))⟩

theorem inbR (h : Fin 2) : ∀ a, (![128 * h.val, 0] : Fin 2 → Nat) a + S128x128.size a ≤ S256x128.size a := fun a => by
  match a with
  | ⟨0, _⟩ => show 128 * h.val + 128 ≤ 256; omega
  | ⟨1, _⟩ => show 0 + 128 ≤ 128; omega
theorem inbR' (h : Fin 2) : ∀ a, (![128 * h.val, 0] : Fin 2 → Nat) a + S128x64.size a ≤ S256x128.size a := fun a => by
  match a with
  | ⟨0, _⟩ => show 128 * h.val + 128 ≤ 256; omega
  | ⟨1, _⟩ => show 0 + 64 ≤ 128; omega
theorem inbX (j : Fin 22) : ∀ a, (![0, 128 * j.val] : Fin 2 → Nat) a + S1x128.size a ≤ S1x2880.size a := fun a => by
  match a with
  | ⟨0, _⟩ => show 0 + 1 ≤ 1; omega
  | ⟨1, _⟩ => show 128 * j.val + 128 ≤ 2880; omega
theorem inbXq (c : Fin 11) : ∀ a, (![0, 256 * c.val] : Fin 2 → Nat) a + S1024x256.size a ≤ S1024x2880.size a := fun a => by
  match a with
  | ⟨0, _⟩ => show 0 + 1024 ≤ 1024; omega
  | ⟨1, _⟩ => show 256 * c.val + 256 ≤ 2880; omega

/-- The body's reads after the first point: the quantised input and its scales stand in their windows' buffers. -/
def readsB : Reads F where
  rs h := View.readAt (Elt F) arg13.view (Rect.unit (s := S256x128) ![128 * h.val, 0] S128x128.size (inbR h)).toLoadRect
    (arg13.view.writes (Elt F) (harg13.unread xs1) [rsPiece arg4 harg4 x3])
  w h j := View.readAt (Elt F) arg3.view (Rect.unit (s := S256x2880) ![128 * h.val, 128 * j.val] S128x128.size (inbT h j)).toLoadRect (harg3.unread x2)
  w' h := View.readAt (Elt F) arg3.view (Rect.unit (s := S256x2880) ![128 * h.val, 2816] S128x64.size (inbU h)).toLoadRect (harg3.unread x2)
  syc h := arg14.view.readCov (syList arg2 harg2 x1) (Rect.unit (s := S256x128) ![128 * h.val, 0] S128x128.size (inbR h)).toLoadRect
  syc' h := arg14.view.readCov (syList arg2 harg2 x1) (Rect.unit (s := S256x128) ![128 * h.val, 0] S128x64.size (inbR' h)).toLoadRect
  sx j := View.readAt (Elt F) arg8.view (Rect.unit (s := S1x2880) ![0, 128 * j.val] S1x128.size (inbX j)).toLoadRect (harg8.unread x7)
  sx' := View.readAt (Elt F) arg8.view (Rect.unit (s := S1x2880) ![0, 2816] S1x64.size inb_S1x2880_S1x64_0_2816).toLoadRect (harg8.unread x7)
  acc c := k0_pay85 (dytRd arg2 harg2 arg12 x1)
    (View.readAt (Elt F) arg7.view (Rect.unit (s := S1024x2880) ![0, 256 * c.val] S1024x256.size (inbXq c)).toLoadRect (harg7.unread x6))
  acc' := k0_pay794 (dytRd arg2 harg2 arg12 x1)
    (View.readAt (Elt F) arg7.view (Rect.unit (s := S1024x2880) ![0, 2816] S1024x64.size inb_S1024x2880_S1024x64_0_2816).toLoadRect (harg7.unread x6))

theorem runB_dw : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x6 x7 xs1 xs3 xs4).1.1
    = (readsB arg2 harg2 arg3 harg3 arg4 harg4 arg7 harg7 arg8 harg8 arg12 arg13 harg13 arg14 x1 x2 x3 x6 x7 xs1).dw := by
  sl_kernel_rfl

/-- The strided reads of the group sums. -/
def prB (h : Fin 2) (b : Fin 12) (k : Fin 8) : Vec F S1x8x128 .f32 :=
  if b.val < 11 then
    arg15.view.readCov (readsB arg2 harg2 arg3 harg3 arg4 harg4 arg7 harg7 arg8 harg8 arg12 arg13 harg13 arg14 x1 x2 x3 x6 x7 xs1).part
      { off := ![h.val, 64 * b.val + k.val, 0], size := S1x8x128.size, stride := ![1, 8, 1], inb := inbS h b k }
  else
    View.readAt (Elt F) arg15.view
      { off := ![h.val, 64 * b.val + k.val, 0], size := S1x8x128.size, stride := ![1, 8, 1], inb := inbS h b k }
      (arg15.view.writes (Elt F) (harg15.unread xs3) (readsB arg2 harg2 arg3 harg3 arg4 harg4 arg7 harg7 arg8 harg8 arg12 arg13 harg13 arg14 x1 x2 x3 x6 x7 xs1).part)

/-- The half tiles' words read back at a full tile's width. -/
def qtB (h : Fin 2) (r : Fin 4) : Vec F S8x128 .i32 :=
  View.readAt (Elt F) arg16.view (Rect.unit (s := S8x128) ![0, 0] S8x128.size inb_S8x128_S8x128_0_0).toLoadRect
    (arg16.view.writes (Elt F) (harg16.unread xs4) ((readsB arg2 harg2 arg3 harg3 arg4 harg4 arg7 harg7 arg8 harg8 arg12 arg13 harg13 arg14 x1 x2 x3 x6 x7 xs1).qt h r))

theorem runB_ds : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x6 x7 xs1 xs3 xs4).1.2.1
    = dsPieces (prB arg2 harg2 arg3 harg3 arg4 harg4 arg7 harg7 arg8 harg8 arg12 arg13 harg13 arg14 arg15 harg15 x1 x2 x3 x6 x7 xs1 xs3) := by
  sl_kernel_rfl

theorem runB_dyq : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x6 x7 xs1 xs3 xs4).1.2.2.1
    = [⟨Rect.unit ![0, 0] S1024x256.size inb_S1024x256_S1024x256_0_0, k0_pay74 (k0_pay72 (dyRd arg2 harg2 x1)) (Scalar.ofBits .bf16 0xC760#16)⟩] := by
  sl_kernel_rfl

theorem runB_sy : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x6 x7 xs1 xs3 xs4).1.2.2.2.1
    = [⟨Rect.unit ![0, 0] S1x256.size inb_S1x256_S1x256_0_0, k0_pay71 (dyRd arg2 harg2 x1)⟩] := by
  sl_kernel_rfl

theorem runB_qp : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x6 x7 xs1 xs3 xs4).1.2.2.2.2
    = (readsB arg2 harg2 arg3 harg3 arg4 harg4 arg7 harg7 arg8 harg8 arg12 arg13 harg13 arg14 x1 x2 x3 x6 x7 xs1).qp (qtB arg2 harg2 arg3 harg3 arg4 harg4 arg7 harg7 arg8 harg8 arg12 arg13 harg13 arg14 arg16 harg16 x1 x2 x3 x6 x7 xs1 xs4) := by
  sl_kernel_rfl

end

end Cert.KernelIdeal.Hand

end
-- ==== Proof.StoresA.lean ====
/- The stores of the first point, as lists over the tiles. It also quantises the input, whose stores the later reads find. -/
module

public import proofs.«01_k».proof.Proof.RunA
public import proofs.«01_k».proof.Proof.StoresB

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

theorem inbSx (c : Fin 11) : ∀ a, (![0, 256 * c.val] : Fin 2 → Nat) a + S1x256.size a ≤ S1x2880.size a := fun a => by
  match a with
  | ⟨0, _⟩ => show 0 + 1 ≤ 1; omega
  | ⟨1, _⟩ => show 256 * c.val + 256 ≤ 2880; omega

section
variable (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole) (hc0 : cond0_0 i)
    (x0 : Vec F S1024x2880 .bf16) (x1 : Vec F S1024x256 .bf16) (x2 : Vec F S256x2880 .f32) (x3 : Vec F S256x90 .f32)

/-- A chunk of the input's columns, from the window's buffer. -/
def xRd (j : Fin 11) : Vec F S1024x256 .bf16 :=
  View.readAt (Elt F) arg1.view (Rect.unit (s := S1024x2880) ![0, 256 * j.val] S1024x256.size (inbXq j)).toLoadRect (harg1.unread x0)
def xRd' : Vec F S1024x64 .bf16 :=
  View.readAt (Elt F) arg1.view (Rect.unit (s := S1024x2880) ![0, 2816] S1024x64.size inb_S1024x2880_S1024x64_0_2816).toLoadRect (harg1.unread x0)

/-- The chunks in the order the body leaves them, last first. -/
def chunks : List (Fin 11) := [10, 9, 8, 7, 6, 5, 4, 3, 2, 1, 0]

/-- The quantised input's stores. -/
def xqT (j : Fin 11) : View.Piece (Elt F) S1024x2880 .fp8e4m3 :=
  ⟨Rect.unit ![0, 256 * j.val] S1024x256.size (inbXq j), k0_pay5 (xRd arg1 harg1 x0 j)⟩
def xqU : View.Piece (Elt F) S1024x2880 .fp8e4m3 :=
  ⟨Rect.unit ![0, 2816] S1024x64.size inb_S1024x2880_S1024x64_0_2816,
    k0_pay64 (k0_pay61 (xRd' arg1 harg1 x0)) (k0_pay62 (xRd' arg1 harg1 x0)) 127#32⟩
def xqList : List (View.Piece (Elt F) S1024x2880 .fp8e4m3) := xqU arg1 harg1 x0 :: chunks.map (xqT arg1 harg1 x0)

/-- The input scales' stores. -/
def sxT (j : Fin 11) : View.Piece (Elt F) S1x2880 .f32 :=
  ⟨Rect.unit ![0, 256 * j.val] S1x256.size (inbSx j), k0_pay4 (xRd arg1 harg1 x0 j)⟩
def sxU : View.Piece (Elt F) S1x2880 .f32 :=
  ⟨Rect.unit ![0, 2816] S1x64.size inb_S1x2880_S1x64_0_2816, k0_pay63 (xRd' arg1 harg1 x0)⟩
def sxList : List (View.Piece (Elt F) S1x2880 .f32) := sxU arg1 harg1 x0 :: chunks.map (sxT arg1 harg1 x0)

/-- What the first point clears before its other stores. -/
def rsZero : View.Piece (Elt F) S256x128 .f32 := ⟨Rect.unit ![0, 0] S256x128.size inb_S256x128_S256x128_0_0, k0_pay65⟩
def partZero : View.Piece (Elt F) S2x768x128 .f32 := ⟨Rect.unit ![0, 0, 0] S2x768x128.size inb_S2x768x128_S2x768x128_0_0_0, k0_pay66⟩
def qtZero : View.Piece (Elt F) S8x128 .i32 := ⟨Rect.unit ![0, 0] S8x128.size inb_S8x128_S8x128_0_0, k0_pay68 k0_pay67⟩

/-- The body's reads at the first point: the quantised input and its scales have just been stored. -/
def readsA : Reads F where
  rs h := arg13.view.readCov [rsPiece arg4 harg4 x3, rsZero] (Rect.unit (s := S256x128) ![128 * h.val, 0] S128x128.size (inbR h)).toLoadRect
  w h j := View.readAt (Elt F) arg3.view (Rect.unit (s := S256x2880) ![128 * h.val, 128 * j.val] S128x128.size (inbT h j)).toLoadRect (harg3.unread x2)
  w' h := View.readAt (Elt F) arg3.view (Rect.unit (s := S256x2880) ![128 * h.val, 2816] S128x64.size (inbU h)).toLoadRect (harg3.unread x2)
  syc h := arg14.view.readCov (syList arg2 harg2 x1) (Rect.unit (s := S256x128) ![128 * h.val, 0] S128x128.size (inbR h)).toLoadRect
  syc' h := arg14.view.readCov (syList arg2 harg2 x1) (Rect.unit (s := S256x128) ![128 * h.val, 0] S128x64.size (inbR' h)).toLoadRect
  sx j := arg8.view.readCov (sxList arg1 harg1 x0) (Rect.unit (s := S1x2880) ![0, 128 * j.val] S1x128.size (inbX j)).toLoadRect
  sx' := arg8.view.readCov (sxList arg1 harg1 x0) (Rect.unit (s := S1x2880) ![0, 2816] S1x64.size inb_S1x2880_S1x64_0_2816).toLoadRect
  acc c := k0_pay85 (dytRd arg2 harg2 arg12 x1)
    (arg7.view.readCov (xqList arg1 harg1 x0) (Rect.unit (s := S1024x2880) ![0, 256 * c.val] S1024x256.size (inbXq c)).toLoadRect)
  acc' := k0_pay794 (dytRd arg2 harg2 arg12 x1)
    (arg7.view.readCov (xqList arg1 harg1 x0) (Rect.unit (s := S1024x2880) ![0, 2816] S1024x64.size inb_S1024x2880_S1024x64_0_2816).toLoadRect)

/-- The strided reads of the group sums. -/
def prA (h : Fin 2) (b : Fin 12) (k : Fin 8) : Vec F S1x8x128 .f32 :=
  arg15.view.readCov ((readsA arg1 harg1 arg2 harg2 arg3 harg3 arg4 harg4 arg7 arg8 arg12 arg13 arg14 x0 x1 x2 x3).part ++ [partZero])
    { off := ![h.val, 64 * b.val + k.val, 0], size := S1x8x128.size, stride := ![1, 8, 1], inb := inbS h b k }

/-- The half tiles' words read back at a full tile's width. -/
def qtA (h : Fin 2) (r : Fin 4) : Vec F S8x128 .i32 :=
  arg16.view.readCov ((readsA arg1 harg1 arg2 harg2 arg3 harg3 arg4 harg4 arg7 arg8 arg12 arg13 arg14 x0 x1 x2 x3).qt h r ++ [qtZero]) (Rect.unit (s := S8x128) ![0, 0] S8x128.size inb_S8x128_S8x128_0_0).toLoadRect

theorem runA_dw : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.1 = (readsA arg1 harg1 arg2 harg2 arg3 harg3 arg4 harg4 arg7 arg8 arg12 arg13 arg14 x0 x1 x2 x3).dw := by
  sl_kernel_rfl

theorem runA_ds : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.1 = dsPieces (prA arg1 harg1 arg2 harg2 arg3 harg3 arg4 harg4 arg7 arg8 arg12 arg13 arg14 arg15 x0 x1 x2 x3) := by
  sl_kernel_rfl

theorem runA_xq : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.1 = xqList arg1 harg1 x0 := by
  sl_kernel_rfl

theorem runA_sx : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.1 = sxList arg1 harg1 x0 := by
  sl_kernel_rfl

theorem runA_dyq : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.1
    = [⟨Rect.unit ![0, 0] S1024x256.size inb_S1024x256_S1024x256_0_0, k0_pay74 (k0_pay72 (dyRd arg2 harg2 x1)) (Scalar.ofBits .bf16 0xC760#16)⟩] := by
  sl_kernel_rfl

theorem runA_sy : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.2.1
    = [⟨Rect.unit ![0, 0] S1x256.size inb_S1x256_S1x256_0_0, k0_pay71 (dyRd arg2 harg2 x1)⟩] := by
  sl_kernel_rfl

theorem runA_qp : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.2.2 = (readsA arg1 harg1 arg2 harg2 arg3 harg3 arg4 harg4 arg7 arg8 arg12 arg13 arg14 x0 x1 x2 x3).qp (qtA arg1 harg1 arg2 harg2 arg3 harg3 arg4 harg4 arg7 arg8 arg12 arg13 arg14 arg16 x0 x1 x2 x3) := by
  sl_kernel_rfl

end

end Cert.KernelIdeal.Hand

end
-- ==== Proof.ReadsOK.lean ====
/- What the body's reads hold: the point's blocks, at the first point and after it. -/
module

public import proofs.«01_k».proof.Proof.Blocks
public import proofs.«01_k».proof.Proof.StoresA
public import Idealize.ShloMosaic.Lib.WholeRead

@[expose] public section

set_option maxRecDepth 16384

noncomputable section

namespace Cert.KernelIdeal.Hand

open Cert.KernelIdeal.Gen Cert.Quant
open Idealize.ShloMosaic Idealize.ShloMosaic.TcCoe Idealize.ShloMosaic.Tactic

/-- Where a read of a unit-stride rectangle of a plane finds an index. -/
theorem idx2 {n m : ℕ} (a b : ℕ) (sz : Fin 2 → ℕ) (inb) (x : (Rect.unit (s := ⟨2, ![n, m]⟩) ![a, b] sz inb).toLoadRect.shape.Idx) (p : Fin n) (q : Fin m)
    (h0 : p.val = a + (x 0).val) (h1 : q.val = b + (x 1).val) : (Rect.unit (s := ⟨2, ![n, m]⟩) ![a, b] sz inb).toLoadRect.idx x = ix2 p q := by
  funext i
  match i with
  | ⟨0, _⟩ => exact Fin.ext (by show a + 1 * (x 0).val = p.val; omega)
  | ⟨1, _⟩ => exact Fin.ext (by show b + 1 * (x 1).val = q.val; omega)

/-- A single store of a whole plane is what its view reads afterwards. -/
theorem whole_read {n m : ℕ} {τ : EltTy} {sig : RefSig} {κ : Kind} {sp : Space} (v : View sig κ sp ⟨2, ![n, m]⟩ τ) (f : v.ty.Contents (Elt Ideal))
    (inb : ∀ a, (![0, 0] : Fin 2 → Nat) a + (![n, m] : Fin 2 → Nat) a ≤ (⟨2, ![n, m]⟩ : Shape).size a) (X : Vec Ideal ⟨2, ![n, m]⟩ τ) (y : (⟨2, ![n, m]⟩ : Shape).Idx) :
    v.read (Elt Ideal) (v.writes (Elt Ideal) f [⟨Rect.unit ![0, 0] ![n, m] inb, X⟩]) y = X y := by
  refine View.read_writes_apply_of_pieces v f X _ ?_ y ?_
  · intro p hp
    simp only [List.mem_cons, List.not_mem_nil, or_false] at hp
    subst hp
    intro x
    refine congrArg X (funext fun i => ?_)
    match i with
    | ⟨0, _⟩ => exact Fin.ext (by show (x 0).val = 0 + 1 * (x 0).val; omega)
    | ⟨1, _⟩ => exact Fin.ext (by show (x 1).val = 0 + 1 * (x 1).val; omega)
  · have h0 : (y 0).val < n := (y 0).isLt
    have h1 : (y 1).val < m := (y 1).isLt
    exact ⟨_, List.mem_cons_self, mem2 0 0 n m inb y (by omega) (by omega)⟩

section
variable (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg7 : Memref sig .tc .vmem S1024x2880 .fp8e4m3) (harg7 : arg7.IsWhole) (arg8 : Memref sig .tc .vmem S1x2880 .f32) (harg8 : arg8.IsWhole) (arg12 : Memref sig .tc .vmem S256x1024 .fp8e5m2) (arg13 : Memref sig .tc .vmem S256x128 .f32) (harg13 : arg13.IsWhole) (arg14 : Memref sig .tc .vmem S256x128 .f32) (arg15 : Memref sig .tc .vmem S2x768x128 .f32) (harg15 : arg15.IsWhole)
    (x0 : Vec Ideal S1024x2880 .bf16) (x1 : Vec Ideal S1024x256 .bf16) (x2 : Vec Ideal S256x2880 .f32) (x3 : Vec Ideal S256x90 .f32) (xs1 : Vec Ideal S256x128 .f32) (xs3 : Vec Ideal S2x768x128 .f32)

theorem dyRd_eq : dyRd arg2 harg2 x1 = x1 := by
  funext x
  unfold dyRd
  rw [harg2.readAt_unread]
  exact congrArg x1 ((idx2 (n := 1024) (m := 256) 0 0 _ _ x (x 0) (x 1) (Nat.zero_add _).symm (Nat.zero_add _).symm).trans (eq_ix2 x).symm)

/-- The scales along the rows, wherever they are read. -/
theorem sy_at {sig : RefSig} {κ : Kind} {sp : Space} (v : View sig κ sp S256x128 .f32) (f : v.ty.Contents (Elt Ideal)) (r : Fin 256) (q : Fin 128) :
    v.read (Elt Ideal) (v.writes (Elt Ideal) f (syList arg2 harg2 x1)) (ix2 r q) = scaleOf my x1 r := by
  unfold syList
  rw [dyRd_eq]
  exact (whole_read v f inb_S256x128_S256x128_0_0 _ _).trans (pay76_apply x1 r q)
theorem dyt_at (r : Fin 256) (k : Fin 1024) : dytRd arg2 harg2 arg12 x1 (ix2 r k) = bDQ x1 (ix2 k r) := by
  unfold dytRd dytList
  rw [dyRd_eq]
  show arg12.view.read (Elt Ideal) (arg12.view.writes (Elt Ideal) arg12.view.junk _) (LoadRect.idx _ _) = _
  rw [idx2 0 0 _ _ _ r k (Nat.zero_add _).symm (Nat.zero_add _).symm]
  exact (whole_read _ _ inb_S256x1024_S256x1024_0_0 _ _).trans (pay75_apply x1 r k)
theorem dyq_read {sig : RefSig} {κ : Kind} {sp : Space} (v : View sig κ sp S1024x256 .fp8e5m2) (f : v.ty.Contents (Elt Ideal)) :
    v.read (Elt Ideal) (v.writes (Elt Ideal) f [⟨Rect.unit ![0, 0] S1024x256.size inb_S1024x256_S1024x256_0_0, k0_pay74 (k0_pay72 (dyRd arg2 harg2 x1)) (Scalar.ofBits .bf16 0xC760#16)⟩]) = bDQ x1 := by
  funext y
  rw [dyRd_eq]
  refine (whole_read v f inb_S1024x256_S1024x256_0_0 _ y).trans ?_
  obtain ⟨p, q, rfl⟩ : ∃ (p : Fin 1024) (q : Fin 256), y = ix2 p q := ⟨y 0, y 1, eq_ix2 y⟩
  exact pay74_apply x1 p q
theorem sy_read {sig : RefSig} {κ : Kind} {sp : Space} (v : View sig κ sp S1x256 .f32) (f : v.ty.Contents (Elt Ideal)) :
    v.read (Elt Ideal) (v.writes (Elt Ideal) f [⟨Rect.unit ![0, 0] S1x256.size inb_S1x256_S1x256_0_0, k0_pay71 (dyRd arg2 harg2 x1)⟩]) = bSY x1 := by
  funext y
  rw [dyRd_eq]
  refine (whole_read v f inb_S1x256_S1x256_0_0 _ y).trans ?_
  obtain ⟨p, q, rfl⟩ : ∃ (p : Fin 1) (q : Fin 256), y = ix2 p q := ⟨y 0, y 1, eq_ix2 y⟩
  obtain rfl : p = 0 := Subsingleton.elim _ _
  exact pay71_apply x1 q

/-- The reciprocal scales, whatever stood there before. -/
theorem rs_at {sig : RefSig} {κ : Kind} {sp : Space} (v : View sig κ sp S256x128 .f32) (f : v.ty.Contents (Elt Ideal)) (L : List (View.Piece (Elt Ideal) S256x128 .f32))
    (row : Fin 256) (l : Fin 128) (g : Fin 90) (hg : g.val = l.val) :
    v.read (Elt Ideal) (v.writes (Elt Ideal) f (rsPiece arg4 harg4 x3 :: L)) (ix2 row l) = Scalar.divf (F := Ideal) (φ := .f32) (Scalar.ofBits .f32 0x3F800000#32) (x3 (ix2 row g)) := by
  have e : (ix2 row l : S256x128.Idx) = (Rect.unit (s := S256x128) ![0, 0] S256x90.size inb_S256x128_S256x90_0_0).emb (ix2 row g) := by
    obtain ⟨e0, e1⟩ := emb2 (n := 256) (m := 128) 0 0 S256x90.size inb_S256x128_S256x90_0_0 (ix2 row g)
    funext i
    match i with
    | ⟨0, _⟩ => exact Fin.ext (e0.trans (Nat.zero_add _)).symm
    | ⟨1, _⟩ => exact Fin.ext ((e1.trans (Nat.zero_add _)).trans hg).symm
  rw [e]
  unfold rsPiece
  rw [View.read_writes_cons_emb, pay77_apply, harg4.readAt_unread, idx2 0 0 _ _ _ row g (Nat.zero_add _).symm (Nat.zero_add _).symm]

/-- The chunks of the input. -/
theorem xRd_apply (j : Fin 11) (r : Fin 1024) (q : Fin 256) (col : Fin 2880) (hc : col.val = 256 * j.val + q.val) : xRd arg1 harg1 x0 j (ix2 r q) = x0 (ix2 r col) := by
  unfold xRd
  rw [harg1.readAt_unread, idx2 0 (256 * j.val) _ _ _ r col (Nat.zero_add _).symm hc]
theorem xRd'_apply (r : Fin 1024) (q : Fin 64) (col : Fin 2880) (hc : col.val = 2816 + q.val) : xRd' arg1 harg1 x0 (ix2 r q) = x0 (ix2 r col) := by
  unfold xRd'
  rw [harg1.readAt_unread, idx2 0 2816 _ _ _ r col (Nat.zero_add _).symm hc]

theorem xq_read {sig : RefSig} {κ : Kind} {sp : Space} (v : View sig κ sp S1024x2880 .fp8e4m3) (f : v.ty.Contents (Elt Ideal)) :
    v.read (Elt Ideal) (v.writes (Elt Ideal) f (xqList arg1 harg1 x0)) = bXQ x0 := by
  have hU : ∀ x : S1024x64.Idx, k0_pay64 (k0_pay61 (xRd' arg1 harg1 x0)) (k0_pay62 (xRd' arg1 harg1 x0)) 127#32 x
      = bXQ x0 ((Rect.unit (s := S1024x2880) ![0, 2816] S1024x64.size inb_S1024x2880_S1024x64_0_2816).emb x) := by
    intro x
    obtain ⟨p, q, rfl⟩ : ∃ (p : Fin 1024) (q : Fin 64), x = ix2 p q := ⟨x 0, x 1, eq_ix2 x⟩
    obtain ⟨e0, e1⟩ := emb2 (n := 1024) (m := 2880) 0 2816 S1024x64.size inb_S1024x2880_S1024x64_0_2816 (ix2 p q)
    rw [pay64_apply]
    unfold bXQ
    rw [show (Rect.unit (s := S1024x2880) ![0, 2816] S1024x64.size inb_S1024x2880_S1024x64_0_2816).emb (ix2 p q) 0 = p from Fin.ext (e0.trans (Nat.zero_add _))]
    exact quantOf_congr _ _ _ _ _ p q _ fun k => xRd'_apply arg1 harg1 x0 k q _ e1
  have hT : ∀ j : Fin 11, ∀ x : S1024x256.Idx, k0_pay5 (xRd arg1 harg1 x0 j) x = bXQ x0 ((Rect.unit (s := S1024x2880) ![0, 256 * j.val] S1024x256.size (inbXq j)).emb x) := by
    intro j x
    obtain ⟨p, q, rfl⟩ : ∃ (p : Fin 1024) (q : Fin 256), x = ix2 p q := ⟨x 0, x 1, eq_ix2 x⟩
    obtain ⟨e0, e1⟩ := emb2 (n := 1024) (m := 2880) 0 (256 * j.val) S1024x256.size (inbXq j) (ix2 p q)
    rw [pay5_apply]
    unfold bXQ
    rw [show (Rect.unit (s := S1024x2880) ![0, 256 * j.val] S1024x256.size (inbXq j)).emb (ix2 p q) 0 = p from Fin.ext (e0.trans (Nat.zero_add _))]
    exact quantOf_congr _ _ _ _ _ p q _ fun k => xRd_apply arg1 harg1 x0 j k q _ e1
  funext y
  refine View.read_writes_apply_of_pieces v f _ _ ?_ y ?_
  · intro p hp
    simp only [xqList, List.mem_cons, List.mem_map] at hp
    rcases hp with rfl | ⟨t, _, rfl⟩
    · exact hU
    · exact hT t
  · have h0 : (y 0).val < 1024 := (y 0).isLt
    have h1 : (y 1).val < 2880 := (y 1).isLt
    by_cases hc : (y 1).val < 2816
    · exact ⟨xqT arg1 harg1 x0 ⟨(y 1).val / 256, by omega⟩, List.mem_cons_of_mem _ (List.mem_map_of_mem (mem_chunks _)),
        mem2 (n := 1024) (m := 2880) 0 (256 * ((y 1).val / 256)) 1024 256 (inbXq ⟨(y 1).val / 256, by omega⟩) y (by omega) (by omega)⟩
    · exact ⟨xqU arg1 harg1 x0, List.mem_cons_self, mem2 (n := 1024) (m := 2880) 0 2816 1024 64 inb_S1024x2880_S1024x64_0_2816 y (by omega) (by omega)⟩

theorem sx_read {sig : RefSig} {κ : Kind} {sp : Space} (v : View sig κ sp S1x2880 .f32) (f : v.ty.Contents (Elt Ideal)) :
    v.read (Elt Ideal) (v.writes (Elt Ideal) f (sxList arg1 harg1 x0)) = bSX x0 := by
  have hU : ∀ x : S1x64.Idx, k0_pay63 (xRd' arg1 harg1 x0) x = bSX x0 ((Rect.unit (s := S1x2880) ![0, 2816] S1x64.size inb_S1x2880_S1x64_0_2816).emb x) := by
    intro x
    obtain ⟨p, q, rfl⟩ : ∃ (p : Fin 1) (q : Fin 64), x = ix2 p q := ⟨x 0, x 1, eq_ix2 x⟩
    obtain rfl : p = 0 := Subsingleton.elim _ _
    obtain ⟨e0, e1⟩ := emb2 (n := 1) (m := 2880) 0 2816 S1x64.size inb_S1x2880_S1x64_0_2816 (ix2 0 q)
    rw [pay63_apply]
    exact scaleOf_congr _ _ _ q _ fun k => xRd'_apply arg1 harg1 x0 k q _ e1
  have hT : ∀ j : Fin 11, ∀ x : S1x256.Idx, k0_pay4 (xRd arg1 harg1 x0 j) x = bSX x0 ((Rect.unit (s := S1x2880) ![0, 256 * j.val] S1x256.size (inbSx j)).emb x) := by
    intro j x
    obtain ⟨p, q, rfl⟩ : ∃ (p : Fin 1) (q : Fin 256), x = ix2 p q := ⟨x 0, x 1, eq_ix2 x⟩
    obtain rfl : p = 0 := Subsingleton.elim _ _
    obtain ⟨e0, e1⟩ := emb2 (n := 1) (m := 2880) 0 (256 * j.val) S1x256.size (inbSx j) (ix2 0 q)
    rw [pay4_apply]
    exact scaleOf_congr _ _ _ q _ fun k => xRd_apply arg1 harg1 x0 j k q _ e1
  funext y
  refine View.read_writes_apply_of_pieces v f _ _ ?_ y ?_
  · intro p hp
    simp only [sxList, List.mem_cons, List.mem_map] at hp
    rcases hp with rfl | ⟨t, _, rfl⟩
    · exact hU
    · exact hT t
  · have h0 : (y 0).val < 1 := (y 0).isLt
    have h1 : (y 1).val < 2880 := (y 1).isLt
    by_cases hc : (y 1).val < 2816
    · exact ⟨sxT arg1 harg1 x0 ⟨(y 1).val / 256, by omega⟩, List.mem_cons_of_mem _ (List.mem_map_of_mem (mem_chunks _)),
        mem2 (n := 1) (m := 2880) 0 (256 * ((y 1).val / 256)) 1 256 (inbSx ⟨(y 1).val / 256, by omega⟩) y (by omega) (by omega)⟩
    · exact ⟨sxU arg1 harg1 x0, List.mem_cons_self, mem2 (n := 1) (m := 2880) 0 2816 1 64 inb_S1x2880_S1x64_0_2816 y (by omega) (by omega)⟩

theorem acc_sum (a : Vec Ideal S256x1024 .fp8e5m2) (ha : ∀ r k, a (ix2 r k) = bDQ x1 (ix2 k r)) (b : Vec Ideal S1024x256 .fp8e4m3) (r q : Fin 256) (col : Fin 2880)
    (hb : ∀ k, b (ix2 k q) = bXQ x0 (ix2 k col)) : k0_pay85 a b (ix2 r q) = sAcc x0 x1 r col := by
  rw [pay85_apply]; exact Finset.sum_congr rfl fun k _ => by rw [ha, hb]
theorem acc_sum' (a : Vec Ideal S256x1024 .fp8e5m2) (ha : ∀ r k, a (ix2 r k) = bDQ x1 (ix2 k r)) (b : Vec Ideal S1024x64 .fp8e4m3) (r : Fin 256) (q : Fin 64) (col : Fin 2880)
    (hb : ∀ k, b (ix2 k q) = bXQ x0 (ix2 k col)) : k0_pay794 a b (ix2 r q) = sAcc x0 x1 r col := by
  rw [pay794_apply]; exact Finset.sum_congr rfl fun k _ => by rw [ha, hb]

/-- The body's reads after the first point. -/
theorem readsB_ok : (readsB arg2 harg2 arg3 harg3 arg4 harg4 arg7 harg7 arg8 harg8 arg12 arg13 harg13 arg14 x1 x2 x3 (bXQ x0) (bSX x0) xs1).OK x0 x1 x2 x3 where
  rs h p l row g hr hg := by
    show arg13.view.read (Elt Ideal) (arg13.view.writes (Elt Ideal) _ _) (LoadRect.idx _ _) = _
    rw [idx2 (128 * h.val) 0 _ _ _ row l hr (Nat.zero_add _).symm]
    exact rs_at arg4 harg4 x3 _ _ _ row l g hg
  w h j p q row col hr hc := by
    unfold readsB
    dsimp only
    rw [harg3.readAt_unread, idx2 (128 * h.val) (128 * j.val) _ _ _ row col hr hc]
  w' h p q row col hr hc := by
    unfold readsB
    dsimp only
    rw [harg3.readAt_unread, idx2 (128 * h.val) 2816 _ _ _ row col hr hc]
  syc h p q row hr := by
    show arg14.view.read (Elt Ideal) (arg14.view.writes (Elt Ideal) _ _) (LoadRect.idx _ _) = _
    rw [idx2 (128 * h.val) 0 _ _ _ row q hr (Nat.zero_add _).symm]
    exact sy_at arg2 harg2 x1 _ _ row q
  syc' h p q row hr := by
    show arg14.view.read (Elt Ideal) (arg14.view.writes (Elt Ideal) _ _) (LoadRect.idx _ _) = _
    rw [idx2 (128 * h.val) 0 _ _ _ row ⟨q.val, by omega⟩ hr (Nat.zero_add _).symm]
    exact sy_at arg2 harg2 x1 _ _ row _
  sx j q col hc := by
    unfold readsB
    dsimp only
    rw [harg8.readAt_unread, idx2 0 (128 * j.val) _ _ _ 0 col rfl hc]
    rfl
  sx' q col hc := by
    unfold readsB
    dsimp only
    rw [harg8.readAt_unread, idx2 0 2816 _ _ _ 0 col rfl hc]
    rfl
  acc c p q col hc := by
    refine acc_sum x0 x1 _ (dyt_at arg2 harg2 arg12 x1) _ p q col fun k => ?_
    rw [harg7.readAt_unread, idx2 0 (256 * c.val) _ _ _ k col (Nat.zero_add _).symm hc]
  acc' p q col hc := by
    refine acc_sum' x0 x1 _ (dyt_at arg2 harg2 arg12 x1) _ p q col fun k => ?_
    rw [harg7.readAt_unread, idx2 0 2816 _ _ _ k col (Nat.zero_add _).symm hc]

/-- The body's reads at the first point. -/
theorem readsA_ok : (readsA arg1 harg1 arg2 harg2 arg3 harg3 arg4 harg4 arg7 arg8 arg12 arg13 arg14 x0 x1 x2 x3).OK x0 x1 x2 x3 where
  rs h p l row g hr hg := by
    show arg13.view.read (Elt Ideal) (arg13.view.writes (Elt Ideal) _ _) (LoadRect.idx _ _) = _
    rw [idx2 (128 * h.val) 0 _ _ _ row l hr (Nat.zero_add _).symm]
    exact rs_at arg4 harg4 x3 _ _ _ row l g hg
  w h j p q row col hr hc := by
    unfold readsA
    dsimp only
    rw [harg3.readAt_unread, idx2 (128 * h.val) (128 * j.val) _ _ _ row col hr hc]
  w' h p q row col hr hc := by
    unfold readsA
    dsimp only
    rw [harg3.readAt_unread, idx2 (128 * h.val) 2816 _ _ _ row col hr hc]
  syc h p q row hr := by
    show arg14.view.read (Elt Ideal) (arg14.view.writes (Elt Ideal) _ _) (LoadRect.idx _ _) = _
    rw [idx2 (128 * h.val) 0 _ _ _ row q hr (Nat.zero_add _).symm]
    exact sy_at arg2 harg2 x1 _ _ row q
  syc' h p q row hr := by
    show arg14.view.read (Elt Ideal) (arg14.view.writes (Elt Ideal) _ _) (LoadRect.idx _ _) = _
    rw [idx2 (128 * h.val) 0 _ _ _ row ⟨q.val, by omega⟩ hr (Nat.zero_add _).symm]
    exact sy_at arg2 harg2 x1 _ _ row _
  sx j q col hc := by
    show arg8.view.read (Elt Ideal) (arg8.view.writes (Elt Ideal) _ _) (LoadRect.idx _ _) = _
    rw [idx2 0 (128 * j.val) _ _ _ 0 col rfl hc, sx_read]
    rfl
  sx' q col hc := by
    show arg8.view.read (Elt Ideal) (arg8.view.writes (Elt Ideal) _ _) (LoadRect.idx _ _) = _
    rw [idx2 0 2816 _ _ _ 0 col rfl hc, sx_read]
    rfl
  acc c p q col hc := by
    refine acc_sum x0 x1 _ (dyt_at arg2 harg2 arg12 x1) _ p q col fun k => ?_
    show arg7.view.read (Elt Ideal) (arg7.view.writes (Elt Ideal) _ _) (LoadRect.idx _ _) = _
    rw [idx2 0 (256 * c.val) _ _ _ k col (Nat.zero_add _).symm hc, xq_read]
  acc' p q col hc := by
    refine acc_sum' x0 x1 _ (dyt_at arg2 harg2 arg12 x1) _ p q col fun k => ?_
    show arg7.view.read (Elt Ideal) (arg7.view.writes (Elt Ideal) _ _) (LoadRect.idx _ _) = _
    rw [idx2 0 2816 _ _ _ k col (Nat.zero_add _).symm hc, xq_read]

/-! ## The strided reads of the group sums -/

/-- Every eighth row of a half of the group sums, from the `k`-th of a group on: the `k`-th partial sums of eight groups. -/
theorem strided (h : Fin 2) (b : Fin 12) (k i : Fin 8) (p : Fin 128) (row : Fin 256) (g : Fin 90) (hr : row.val = 128 * h.val + p.val) (hg : g.val = 8 * b.val + i.val)
    (y : S2x768x128.Idx) (hy : y = LoadRect.idx (s := S2x768x128) { off := ![h.val, 64 * b.val + k.val, 0], size := S1x8x128.size, stride := ![1, 8, 1], inb := inbS h b k } (ix3 0 i p)) :
    (y 1).val < 720 ∧ gPart x0 x1 x2 x3 y = sPart x0 x1 x2 x3 row g k := by
  have e0 : (y 0).val = h.val := by rw [hy]; rfl
  have e1 : (y 1).val = 64 * b.val + k.val + 8 * i.val := by rw [hy]; rfl
  have e2 : (y 2).val = p.val := by rw [hy]; show 0 + 1 * p.val = _; omega
  exact ⟨by omega, gPart_at y h p g k row e0 (by omega) e2 hr⟩

theorem prB_apply (h : Fin 2) (b : Fin 12) (k i : Fin 8) (p : Fin 128) (row : Fin 256) (g : Fin 90) (hr : row.val = 128 * h.val + p.val) (hg : g.val = 8 * b.val + i.val) :
    prB arg2 harg2 arg3 harg3 arg4 harg4 arg7 harg7 arg8 harg8 arg12 arg13 harg13 arg14 arg15 harg15 x1 x2 x3 (bXQ x0) (bSX x0) xs1 xs3 h b k (ix3 0 i p) = sPart x0 x1 x2 x3 row g k := by
  obtain ⟨hy, e⟩ := strided x0 x1 x2 x3 h b k i p row g hr hg _ rfl
  unfold prB
  split
  · exact ((readsB_ok arg2 harg2 arg3 harg3 arg4 harg4 arg7 harg7 arg8 harg8 arg12 arg13 harg13 arg14 x0 x1 x2 x3 xs1).part_read _ _ _ hy).trans e
  · exact ((readsB_ok arg2 harg2 arg3 harg3 arg4 harg4 arg7 harg7 arg8 harg8 arg12 arg13 harg13 arg14 x0 x1 x2 x3 xs1).part_read _ _ _ hy).trans e

theorem prA_apply (h : Fin 2) (b : Fin 12) (k i : Fin 8) (p : Fin 128) (row : Fin 256) (g : Fin 90) (hr : row.val = 128 * h.val + p.val) (hg : g.val = 8 * b.val + i.val) :
    prA arg1 harg1 arg2 harg2 arg3 harg3 arg4 harg4 arg7 arg8 arg12 arg13 arg14 arg15 x0 x1 x2 x3 h b k (ix3 0 i p) = sPart x0 x1 x2 x3 row g k := by
  obtain ⟨hy, e⟩ := strided x0 x1 x2 x3 h b k i p row g hr hg _ rfl
  unfold prA
  show arg15.view.read (Elt Ideal) (arg15.view.writes (Elt Ideal) _ _) _ = _
  rw [View.writes_append]
  exact ((readsA_ok arg1 harg1 arg2 harg2 arg3 harg3 arg4 harg4 arg7 arg8 arg12 arg13 arg14 x0 x1 x2 x3).part_read _ _ _ hy).trans e

end

end Cert.KernelIdeal.Hand

end
-- ==== Proof.Pack.lean ====
/- Two codes to a byte: what the packing of words holds at each byte. -/
module

public import proofs.«01_k».proof.Proof.Blocks
public import Idealize.ShloMosaic.Lib.BitcastFour
public import Idealize.ShloMosaic.Lib.Pointwise.IndexBridge

@[expose] public section

set_option maxRecDepth 16384

noncomputable section

namespace Cert.KernelIdeal.Hand

open Cert.KernelIdeal.Gen Cert.Quant
open Idealize.ShloMosaic Idealize.ShloMosaic.TcCoe Idealize.ShloMosaic.Tactic

theorem ia_apply (r : Fin 8) (c : Fin 128) : wrap ia (ix2 r c) = BitVec.ofNat 32 (if c.val < 64 then 2 * c.val else 2 * c.val - 127) := by
  pointwise [wrap, ia, k0_pay83, k0_pay78, k0_pay79, k0_pay80, k0_pay81, k0_pay82]
  revert c
  decide +kernel
theorem ib_apply (r : Fin 8) (c : Fin 128) : wrap ib (ix2 r c) = BitVec.ofNat 32 (if c.val < 64 then 2 * c.val + 1 else 2 * c.val - 128) := by
  pointwise [wrap, ib, k0_pay84, k0_pay78, k0_pay79, k0_pay80, k0_pay81, k0_pay82]
  revert c
  decide +kernel

theorem ia_idx (r : Fin 8) (c : Fin 128) (d : Fin 128) (h : d.val = if c.val < 64 then 2 * c.val else 2 * c.val - 127) (hl) :
    (⟨(wrap ia (ix2 r c)).toNat % 128, hl⟩ : Fin 128) = d := by
  apply Fin.ext
  show (wrap ia (ix2 r c)).toNat % 128 = d.val
  rw [ia_apply, h, BitVec.toNat_ofNat]
  split <;> omega
theorem ib_idx (r : Fin 8) (c : Fin 128) (d : Fin 128) (h : d.val = if c.val < 64 then 2 * c.val + 1 else 2 * c.val - 128) (hl) :
    (⟨(wrap ib (ix2 r c)).toNat % 128, hl⟩ : Fin 128) = d := by
  apply Fin.ext
  show (wrap ib (ix2 r c)).toNat % 128 = d.val
  rw [ib_apply, h, BitVec.toNat_ofNat]
  split <;> omega

theorem lo_true : ∀ c : Fin 128, c.val < 64 → IntOp.cmpi CmpIPredicate.slt (BitVec.ofNat 32 c.val) 64#32 = 1#1 := by decide +kernel
theorem lo_false : ∀ c : Fin 128, ¬ c.val < 64 → IntOp.cmpi CmpIPredicate.slt (BitVec.ofNat 32 c.val) 64#32 = 0#1 := by decide +kernel
theorem select_one {α : Type} (a b : α) : Scalar.select 1#1 a b = a := rfl
theorem select_zero {α : Type} (a b : α) : Scalar.select 0#1 a b = b := rfl

/-- The packed words. -/
def packIn (a b : IVec S8x128 32) : IVec S8x128 32 :=
  ori
    (select (cmpi CmpIPredicate.slt (iota Kind.tc S8x128 32 [1] iota_S8x128_d1_w32) (broadcast S8x128 64#32))
      (dynamicGather 1 a (wrap ia)) (dynamicGather 1 b (wrap ib)))
    (shli
      (dynamicRotate 1 (64#32) none
        (select (cmpi CmpIPredicate.slt (iota Kind.tc S8x128 32 [1] iota_S8x128_d1_w32) (broadcast S8x128 64#32))
          (dynamicGather 1 b (wrap ib)) (dynamicGather 1 a (wrap ia)))
        rotates_S8x128_d1)
      (broadcast S8x128 4#32))
theorem packW_eq (a b : IVec S8x128 32) : packW a b = bitcast S32x128 8 (packIn a b) bitcasts_S8x128_w32_S32x128_w8 := rfl

/-- A lane of the low half packs two neighbouring lanes of the first word. -/
theorem packIn_lo (a b : IVec S8x128 32) (r : Fin 8) (c : Fin 128) (h : c.val < 64) :
    packIn a b (ix2 r c) = a (ix2 r ⟨2 * c.val, by omega⟩) ||| (a (ix2 r ⟨2 * c.val + 1, by omega⟩) <<< 4) := by
  pointwise [packIn]
  have e1 : (c.val + 128 - 64) % 128 = c.val + 64 := by omega
  have h2 := lo_false ⟨(c.val + 128 - 64) % 128, by omega⟩ (by show ¬ (c.val + 128 - 64) % 128 < 64; omega)
  rw [lo_true c h, select_one, h2, select_zero, ia_idx r c ⟨2 * c.val, by omega⟩ (by rw [if_pos h]),
    ia_idx r ⟨(c.val + 128 - 64) % 128, by omega⟩ ⟨2 * c.val + 1, by omega⟩ (by
      show 2 * c.val + 1 = if (c.val + 128 - 64) % 128 < 64 then _ else 2 * ((c.val + 128 - 64) % 128) - 127
      rw [if_neg (by omega)]; omega)]
  rfl
/-- A lane of the high half packs two neighbouring lanes of the second word. -/
theorem packIn_hi (a b : IVec S8x128 32) (r : Fin 8) (c : Fin 128) (h : ¬ c.val < 64) :
    packIn a b (ix2 r c) = b (ix2 r ⟨2 * c.val - 128, by omega⟩) ||| (b (ix2 r ⟨2 * c.val - 127, by omega⟩) <<< 4) := by
  pointwise [packIn]
  have h2 := lo_true ⟨(c.val + 128 - 64) % 128, by omega⟩ (by show (c.val + 128 - 64) % 128 < 64; omega)
  rw [lo_false c h, select_zero, h2, select_one, ib_idx r c ⟨2 * c.val - 128, by omega⟩ (by rw [if_neg h]),
    ib_idx r ⟨(c.val + 128 - 64) % 128, by omega⟩ ⟨2 * c.val - 127, by omega⟩ (by
      show 2 * c.val - 127 = if (c.val + 128 - 64) % 128 < 64 then 2 * ((c.val + 128 - 64) % 128) + 1 else _
      rw [if_pos (by omega)]; omega)]
  rfl

/-- A word's bytes are its lane's four rows. -/
theorem unpack (y : IVec S8x128 32) (h : S8x128.Bitcasts 32 S32x128 8) (p : Fin 32) (c : Fin 128) (k : Nat) (hk : k < 8) :
    (bitcast S32x128 8 y h (ix2 p c)).getLsbD k = (y (ix2 ⟨p.val / 4, by omega⟩ c)).getLsbD (8 * (p.val % 4) + k) := by
  rw [bitcast_getLsbD y h _ k hk (by decide)]
  have er : S32x128.row (ix2 p c) = p.val := rfl
  congr 1
  · congr 1
    funext i
    match i with
    | ⟨0, _⟩ => exact Fin.ext ((h.srcIdx_row _ _ _ ⟨0, Nat.zero_lt_two⟩ rfl).trans (by show (S32x128.row (ix2 p c) * 8 + k) / 32 = p.val / 4; rw [er]; omega))
    | ⟨1, _⟩ => exact Fin.ext (h.srcIdx_other _ _ _ ⟨1, Nat.one_lt_two⟩ (by show ¬ 1 + 2 = 2; omega))
  · rw [er]; omega

/-- The bits of a byte of two masked words packed. -/
theorem pack_bits (A B : BitVec 32) (x y : BitVec 8) (m k : Nat) (hm : m < 4) (hk : k < 8) (hA : ∀ q < 8, A.getLsbD (8 * m + q) = x.getLsbD q)
    (hB : ∀ q < 8, B.getLsbD (8 * m + q) = y.getLsbD q) :
    ((A &&& 252645135#32) ||| ((B &&& 252645135#32) <<< 4)).getLsbD (8 * m + k) = ((x &&& 15#8) ||| ((y &&& 15#8) <<< 4)).getLsbD k := by
  have a0 := hA 0 (by omega); have a1 := hA 1 (by omega); have a2 := hA 2 (by omega); have a3 := hA 3 (by omega)
  have b0 := hB 0 (by omega); have b1 := hB 1 (by omega); have b2 := hB 2 (by omega); have b3 := hB 3 (by omega)
  clear hA hB
  interval_cases m <;> interval_cases k <;>
    simp_all [BitVec.getLsbD_or, BitVec.getLsbD_and, BitVec.getLsbD_shiftLeft]

/-- Two neighbouring lanes' codes, at a byte of the packed words. -/
theorem packW_lo (a b : IVec S8x128 32) (p : Fin 32) (c : Fin 128) (h : c.val < 64) (x y : BitVec 8)
    (hx : ∀ q < 8, (a (ix2 ⟨p.val / 4, by omega⟩ ⟨2 * c.val, by omega⟩)).getLsbD (8 * (p.val % 4) + q) = x.getLsbD q)
    (hy : ∀ q < 8, (a (ix2 ⟨p.val / 4, by omega⟩ ⟨2 * c.val + 1, by omega⟩)).getLsbD (8 * (p.val % 4) + q) = y.getLsbD q) :
    packW (nib a) (nib b) (ix2 p c) = (x &&& 15#8) ||| ((y &&& 15#8) <<< 4) := by
  apply BitVec.eq_of_getLsbD_eq
  intro k hk
  rw [packW_eq, unpack _ _ p c k hk, packIn_lo _ _ _ c h]
  exact pack_bits _ _ x y (p.val % 4) k (by omega) hk hx hy
theorem packW_hi (a b : IVec S8x128 32) (p : Fin 32) (c : Fin 128) (h : ¬ c.val < 64) (x y : BitVec 8)
    (hx : ∀ q < 8, (b (ix2 ⟨p.val / 4, by omega⟩ ⟨2 * c.val - 128, by omega⟩)).getLsbD (8 * (p.val % 4) + q) = x.getLsbD q)
    (hy : ∀ q < 8, (b (ix2 ⟨p.val / 4, by omega⟩ ⟨2 * c.val - 127, by omega⟩)).getLsbD (8 * (p.val % 4) + q) = y.getLsbD q) :
    packW (nib a) (nib b) (ix2 p c) = (x &&& 15#8) ||| ((y &&& 15#8) <<< 4) := by
  apply BitVec.eq_of_getLsbD_eq
  intro k hk
  rw [packW_eq, unpack _ _ p c k hk, packIn_hi _ _ _ c h]
  exact pack_bits _ _ x y (p.val % 4) k (by omega) hk hx hy

/-- The bytes of the codes' words. -/
theorem word_apply (v : FVec Ideal S128x128 .f32) (r : Fin 4) (p : Fin 32) (l : Fin 128) (q : Nat) (hq : q < 8) :
    (word v r (ix2 ⟨p.val / 4, by omega⟩ l)).getLsbD (8 * (p.val % 4) + q) = (byteS (v (ix2 ⟨32 * r.val + p.val, by omega⟩ l))).getLsbD q := by
  unfold word
  rw [ix2_eq_valueIdx]
  rw [bitcast_8_32_getLsbD_ix2 _ _ ⟨p.val / 4, by omega⟩ l (8 * (p.val % 4) + q) (by omega) p (by show p.val = 4 * (p.val / 4) + _; omega)]
  rw [← ix2_eq_valueIdx, show (8 * (p.val % 4) + q) % 8 = q by omega]
  congr 1
  pointwise
  rfl
theorem word'_apply (v : FVec Ideal S128x64 .f32) (r : Fin 4) (p : Fin 32) (l : Fin 64) (q : Nat) (hq : q < 8) :
    (word' v r (ix2 ⟨p.val / 4, by omega⟩ l)).getLsbD (8 * (p.val % 4) + q) = (byteS (v (ix2 ⟨32 * r.val + p.val, by omega⟩ l))).getLsbD q := by
  unfold word'
  rw [shapeCast_self]
  rw [ix2_eq_valueIdx]
  rw [bitcast_8_32_getLsbD_ix2 _ _ ⟨p.val / 4, by omega⟩ l (8 * (p.val % 4) + q) (by omega) p (by show p.val = 4 * (p.val / 4) + _; omega)]
  rw [← ix2_eq_valueIdx, show (8 * (p.val % 4) + q) % 8 = q by omega]
  congr 1
  pointwise
  rfl

end Cert.KernelIdeal.Hand

end
-- ==== Proof.PackRead.lean ====
/- The packed codes' stores are the point's block of packed codes. -/
module

public import proofs.«01_k».proof.Proof.Pack
public import proofs.«01_k».proof.Proof.StoresA

@[expose] public section

set_option maxRecDepth 16384

noncomputable section

namespace Cert.KernelIdeal.Hand

open Cert.KernelIdeal.Gen Cert.Quant
open Idealize.ShloMosaic Idealize.ShloMosaic.TcCoe Idealize.ShloMosaic.Tactic

section
variable {R : Reads Ideal} {x0 : Vec Ideal S1024x2880 .bf16} {x1 : Vec Ideal S1024x256 .bf16} {x2 : Vec Ideal S256x2880 .f32} {x3 : Vec Ideal S256x90 .f32} (ok : R.OK x0 x1 x2 x3)
include ok

omit ok in
theorem bQP_at (y : S256x1440.Idx) (row : Fin 256) (c0 c1 : Fin 2880) (hr : (y 0).val = row.val) (h0 : c0.val = 2 * (y 1).val) (h1 : c1.val = 2 * (y 1).val + 1) :
    bQP x2 x3 y = (byteS (sV x2 x3 row c0) &&& 15#8) ||| ((byteS (sV x2 x3 row c1) &&& 15#8) <<< 4) := by
  unfold bQP
  have b1 : (y 1).val < 1440 := (y 1).isLt
  have e0 : c0 = ⟨2 * (y 1).val, by omega⟩ := Fin.ext h0
  have e1 : c1 = ⟨2 * (y 1).val + 1, by omega⟩ := Fin.ext h1
  rw [e0, e1]
  rw [show y 0 = row from Fin.ext hr]

theorem Reads.OK.qT_apply (h : Fin 2) (c : Fin 11) (r : Fin 4) (p : Fin 32) (q : Fin 128) (y : S256x1440.Idx) (hr : (y 0).val = 128 * h.val + 32 * r.val + p.val) (hc : (y 1).val = 128 * c.val + q.val) :
    R.qT h c r (ix2 p q) = bQP x2 x3 y := by
  unfold Reads.qT
  rw [bQP_at (x2 := x2) (x3 := x3) y ⟨128 * h.val + 32 * r.val + p.val, by omega⟩ ⟨2 * (y 1).val, by omega⟩ ⟨2 * (y 1).val + 1, by omega⟩ hr rfl rfl]
  by_cases hq : q.val < 64
  · refine packW_lo _ _ p q hq _ _ (fun k hk => ?_) fun k hk => ?_
    · rw [word_apply _ r p _ k hk, ok.tv h _ _ _ ⟨128 * h.val + 32 * r.val + p.val, by omega⟩ ⟨2 * (y 1).val, by omega⟩
        (by show 128 * h.val + 32 * r.val + p.val = 128 * h.val + (32 * r.val + p.val); omega) (by show 2 * (y 1).val = 128 * (2 * c.val) + 2 * q.val; omega)]
    · rw [word_apply _ r p _ k hk, ok.tv h _ _ _ ⟨128 * h.val + 32 * r.val + p.val, by omega⟩ ⟨2 * (y 1).val + 1, by omega⟩
        (by show 128 * h.val + 32 * r.val + p.val = 128 * h.val + (32 * r.val + p.val); omega) (by show 2 * (y 1).val + 1 = 128 * (2 * c.val) + (2 * q.val + 1); omega)]
  · refine packW_hi _ _ p q hq _ _ (fun k hk => ?_) fun k hk => ?_
    · rw [word_apply _ r p _ k hk, ok.tv h _ _ _ ⟨128 * h.val + 32 * r.val + p.val, by omega⟩ ⟨2 * (y 1).val, by omega⟩
        (by show 128 * h.val + 32 * r.val + p.val = 128 * h.val + (32 * r.val + p.val); omega) (by show 2 * (y 1).val = 128 * (2 * c.val + 1) + (2 * q.val - 128); omega)]
    · rw [word_apply _ r p _ k hk, ok.tv h _ _ _ ⟨128 * h.val + 32 * r.val + p.val, by omega⟩ ⟨2 * (y 1).val + 1, by omega⟩
        (by show 128 * h.val + 32 * r.val + p.val = 128 * h.val + (32 * r.val + p.val); omega) (by show 2 * (y 1).val + 1 = 128 * (2 * c.val + 1) + (2 * q.val - 127); omega)]

theorem Reads.OK.qU_apply (h : Fin 2) (r : Fin 4) (x : Vec Ideal S8x128 .i32) (hx : ∀ (a : Fin 8) (l : Fin 64), x (ix2 a ⟨l.val, by omega⟩) = word' (R.uv h) r (ix2 a l))
    (p q : Fin 32) (y : S256x1440.Idx) (hr : (y 0).val = 128 * h.val + 32 * r.val + p.val) (hc : (y 1).val = 1408 + q.val) : qU (F := Ideal) x (ix2 p q) = bQP x2 x3 y := by
  rw [bQP_at (x2 := x2) (x3 := x3) y ⟨128 * h.val + 32 * r.val + p.val, by omega⟩ ⟨2 * (y 1).val, by omega⟩ ⟨2 * (y 1).val + 1, by omega⟩ hr rfl rfl]
  have e : qU (F := Ideal) x (ix2 p q) = packW (nib x) (nib x) (ix2 p ⟨q.val, by omega⟩) := by
    pointwise [qU]
  rw [e]
  refine packW_lo _ _ p ⟨q.val, by omega⟩ (by show q.val < 64; omega) _ _ (fun k hk => ?_) fun k hk => ?_
  · rw [hx ⟨p.val / 4, by omega⟩ ⟨2 * q.val, by omega⟩, word'_apply _ r p _ k hk, ok.uv h _ _ ⟨128 * h.val + 32 * r.val + p.val, by omega⟩ ⟨2 * (y 1).val, by omega⟩
      (by show 128 * h.val + 32 * r.val + p.val = 128 * h.val + (32 * r.val + p.val); omega) (by show 2 * (y 1).val = 2816 + 2 * q.val; omega)]
  · rw [hx ⟨p.val / 4, by omega⟩ ⟨2 * q.val + 1, by omega⟩, word'_apply _ r p _ k hk, ok.uv h _ _ ⟨128 * h.val + 32 * r.val + p.val, by omega⟩ ⟨2 * (y 1).val + 1, by omega⟩
      (by show 128 * h.val + 32 * r.val + p.val = 128 * h.val + (32 * r.val + p.val); omega) (by show 2 * (y 1).val + 1 = 2816 + (2 * q.val + 1); omega)]

/-- What a view of the packed codes' block reads after the stores. -/
theorem Reads.OK.qp_read (x : Fin 2 → Fin 4 → Vec Ideal S8x128 .i32) (hx : ∀ h r (a : Fin 8) (l : Fin 64), x h r (ix2 a ⟨l.val, by omega⟩) = word' (R.uv h) r (ix2 a l))
    {sig : RefSig} {κ : Kind} {sp : Space} (v : View sig κ sp S256x1440 .i8) (f : v.ty.Contents (Elt Ideal)) :
    v.read (Elt Ideal) (v.writes (Elt Ideal) f (R.qp x)) = bQP x2 x3 := by
  have hU : ∀ (h : Fin 2) (r : Fin 4), ∀ z : S32x32.Idx, qU (F := Ideal) (x h r) z = bQP x2 x3 ((Rect.unit (s := S256x1440) ![128 * h.val + 32 * r.val, 1408] S32x32.size (inbQU h r)).emb z) := by
    intro h r z
    obtain ⟨p, q, rfl⟩ : ∃ (p : Fin 32) (q : Fin 32), z = ix2 p q := ⟨z 0, z 1, eq_ix2 z⟩
    obtain ⟨e0, e1⟩ := emb2 (n := 256) (m := 1440) (128 * h.val + 32 * r.val) 1408 S32x32.size (inbQU h r) (ix2 p q)
    exact ok.qU_apply h r (x h r) (hx h r) p q _ e0 e1
  have hT : ∀ (h : Fin 2) (c : Fin 11) (r : Fin 4), ∀ z : S32x128.Idx, R.qT h c r z = bQP x2 x3 ((Rect.unit (s := S256x1440) ![128 * h.val + 32 * r.val, 128 * c.val] S32x128.size (inbQT h c r)).emb z) := by
    intro h c r z
    obtain ⟨p, q, rfl⟩ : ∃ (p : Fin 32) (q : Fin 128), z = ix2 p q := ⟨z 0, z 1, eq_ix2 z⟩
    obtain ⟨e0, e1⟩ := emb2 (n := 256) (m := 1440) (128 * h.val + 32 * r.val) (128 * c.val) S32x128.size (inbQT h c r) (ix2 p q)
    exact ok.qT_apply h c r p q _ e0 e1
  funext y
  refine View.read_writes_apply_of_pieces v f _ _ ?_ y ?_
  · intro p hp
    rcases List.mem_append.1 hp with hp | hp
    · obtain ⟨t, _, rfl⟩ := List.mem_map.1 hp
      exact hU t.1 t.2
    · obtain ⟨c, _, hp⟩ := List.mem_flatMap.1 hp
      obtain ⟨t, _, rfl⟩ := List.mem_map.1 hp
      exact hT t.1 c t.2
  · have h0 : (y 0).val < 256 := (y 0).isLt
    have h1 : (y 1).val < 1440 := (y 1).isLt
    by_cases hc : (y 1).val < 1408
    · refine ⟨R.qpT (⟨(y 1).val / 128, by omega⟩, ⟨(y 0).val / 128, by omega⟩, ⟨(y 0).val % 128 / 32, by omega⟩), ?_, ?_⟩
      · exact List.mem_append_right _ (List.mem_flatMap.2 ⟨_, mem_chunks _, List.mem_map_of_mem (f := fun p => R.qpT (_, p)) (mem_strips _)⟩)
      · exact mem2 (n := 256) (m := 1440) (128 * ((y 0).val / 128) + 32 * ((y 0).val % 128 / 32)) (128 * ((y 1).val / 128)) 32 128
          (inbQT ⟨(y 0).val / 128, by omega⟩ ⟨(y 1).val / 128, by omega⟩ ⟨(y 0).val % 128 / 32, by omega⟩) y (by omega) (by omega)
    · refine ⟨qpU x (⟨(y 0).val / 128, by omega⟩, ⟨(y 0).val % 128 / 32, by omega⟩), ?_, ?_⟩
      · exact List.mem_append_left _ (List.mem_map_of_mem (mem_strips _))
      · exact mem2 (n := 256) (m := 1440) (128 * ((y 0).val / 128) + 32 * ((y 0).val % 128 / 32)) 1408 32 32
          (inbQU ⟨(y 0).val / 128, by omega⟩ ⟨(y 0).val % 128 / 32, by omega⟩) y (by omega) (by omega)

omit ok in
theorem qt_cons : ∀ (h : Fin 2) (r : Fin 4), ∃ L, strips.drop (7 - (4 * h.val + r.val)) = (h, r) :: L := by
  intro h r
  match h, r with
  | ⟨0, _⟩, ⟨0, _⟩ => exact ⟨_, rfl⟩
  | ⟨0, _⟩, ⟨1, _⟩ => exact ⟨_, rfl⟩
  | ⟨0, _⟩, ⟨2, _⟩ => exact ⟨_, rfl⟩
  | ⟨0, _⟩, ⟨3, _⟩ => exact ⟨_, rfl⟩
  | ⟨1, _⟩, ⟨0, _⟩ => exact ⟨_, rfl⟩
  | ⟨1, _⟩, ⟨1, _⟩ => exact ⟨_, rfl⟩
  | ⟨1, _⟩, ⟨2, _⟩ => exact ⟨_, rfl⟩
  | ⟨1, _⟩, ⟨3, _⟩ => exact ⟨_, rfl⟩

omit ok in
/-- The low half of the half tiles' words, read back after their store. -/
theorem qt_read (R : Reads Ideal) {sig : RefSig} {κ : Kind} {sp : Space} (v : View sig κ sp S8x128 .i32) (f : v.ty.Contents (Elt Ideal)) (h : Fin 2) (r : Fin 4) (a : Fin 8) (l : Fin 64) (l' : Fin 128) (hl : l'.val = l.val) :
    v.read (Elt Ideal) (v.writes (Elt Ideal) f (R.qt h r)) (ix2 a l') = word' (R.uv h) r (ix2 a l) := by
  obtain ⟨L, e⟩ := qt_cons h r
  unfold Reads.qt
  rw [e, List.map_cons]
  have e : (ix2 a l' : S8x128.Idx) = (Rect.unit (s := S8x128) ![0, 0] S8x64.size inbQ).emb (ix2 a l) := by
    obtain ⟨e0, e1⟩ := emb2 (n := 8) (m := 128) 0 0 S8x64.size inbQ (ix2 a l)
    funext i
    match i with
    | ⟨0, _⟩ => exact Fin.ext (e0.trans (Nat.zero_add _)).symm
    | ⟨1, _⟩ => exact Fin.ext ((e1.trans (Nat.zero_add _)).trans hl.symm).symm
  rw [e]
  exact View.read_writes_cons_emb ..

end

end Cert.KernelIdeal.Hand

end
-- ==== Proof.Ends.lean ====
/- What each output's buffer holds after the body's run: its point's block. -/
module

public import proofs.«01_k».proof.Proof.ReadsOK
public import proofs.«01_k».proof.Proof.PackRead

@[expose] public section

set_option maxRecDepth 16384

noncomputable section

namespace Cert.KernelIdeal.Hand

open Cert.KernelIdeal.Gen Cert.Quant
open Idealize.ShloMosaic Idealize.ShloMosaic.TcCoe Idealize.ShloMosaic.Tactic

section
variable (c : Dev nD) (i : grid0.Coords) (arg1 : Memref sig .tc .vmem S1024x2880 .bf16) (harg1 : arg1.IsWhole) (arg2 : Memref sig .tc .vmem S1024x256 .bf16) (harg2 : arg2.IsWhole) (arg3 : Memref sig .tc .vmem S256x2880 .f32) (harg3 : arg3.IsWhole) (arg4 : Memref sig .tc .vmem S256x90 .f32) (harg4 : arg4.IsWhole) (arg5 : Memref sig .tc .vmem S256x2880 .f32) (harg5 : arg5.IsWhole) (arg6 : Memref sig .tc .vmem S256x90 .f32) (harg6 : arg6.IsWhole) (arg7 : Memref sig .tc .vmem S1024x2880 .fp8e4m3) (harg7 : arg7.IsWhole) (arg8 : Memref sig .tc .vmem S1x2880 .f32) (harg8 : arg8.IsWhole) (arg9 : Memref sig .tc .vmem S1024x256 .fp8e5m2) (harg9 : arg9.IsWhole) (arg10 : Memref sig .tc .vmem S1x256 .f32) (harg10 : arg10.IsWhole) (arg11 : Memref sig .tc .vmem S256x1440 .i8) (harg11 : arg11.IsWhole) (arg12 : Memref sig .tc .vmem S256x1024 .fp8e5m2) (harg12 : arg12.IsWhole) (arg13 : Memref sig .tc .vmem S256x128 .f32) (harg13 : arg13.IsWhole) (arg14 : Memref sig .tc .vmem S256x128 .f32) (harg14 : arg14.IsWhole) (arg15 : Memref sig .tc .vmem S2x768x128 .f32) (harg15 : arg15.IsWhole) (arg16 : Memref sig .tc .vmem S8x128 .i32) (harg16 : arg16.IsWhole)
    (x0 : Vec Ideal S1024x2880 .bf16) (x1 : Vec Ideal S1024x256 .bf16) (x2 : Vec Ideal S256x2880 .f32) (x3 : Vec Ideal S256x90 .f32) (xs1 : Vec Ideal S256x128 .f32) (xs3 : Vec Ideal S2x768x128 .f32) (xs4 : Vec Ideal S8x128 .i32)

/-- The half tiles' words, read back. -/
theorem qtA_apply (h : Fin 2) (r : Fin 4) (a : Fin 8) (l : Fin 64) :
    qtA arg1 harg1 arg2 harg2 arg3 harg3 arg4 harg4 arg7 arg8 arg12 arg13 arg14 arg16 x0 x1 x2 x3 h r (ix2 a ⟨l.val, by omega⟩)
      = word' ((readsA arg1 harg1 arg2 harg2 arg3 harg3 arg4 harg4 arg7 arg8 arg12 arg13 arg14 x0 x1 x2 x3).uv h) r (ix2 a l) := by
  unfold qtA
  show arg16.view.read (Elt Ideal) (arg16.view.writes (Elt Ideal) _ _) (LoadRect.idx _ _) = _
  rw [View.writes_append, idx2 0 0 _ _ _ a ⟨l.val, by omega⟩ (Nat.zero_add _).symm (Nat.zero_add _).symm]
  exact qt_read _ _ _ h r a l _ rfl
theorem qtB_apply (h : Fin 2) (r : Fin 4) (a : Fin 8) (l : Fin 64) :
    qtB arg2 harg2 arg3 harg3 arg4 harg4 arg7 harg7 arg8 harg8 arg12 arg13 harg13 arg14 arg16 harg16 x1 x2 x3 (bXQ x0) (bSX x0) xs1 xs4 h r (ix2 a ⟨l.val, by omega⟩)
      = word' ((readsB arg2 harg2 arg3 harg3 arg4 harg4 arg7 harg7 arg8 harg8 arg12 arg13 harg13 arg14 x1 x2 x3 (bXQ x0) (bSX x0) xs1).uv h) r (ix2 a l) := by
  unfold qtB
  show arg16.view.read (Elt Ideal) (arg16.view.writes (Elt Ideal) _ _) (LoadRect.idx _ _) = _
  rw [idx2 0 0 _ _ _ a ⟨l.val, by omega⟩ (Nat.zero_add _).symm (Nat.zero_add _).symm]
  exact qt_read _ _ _ h r a l _ rfl

/-! ## The first point -/

theorem endA_dw (hc0 : cond0_0 i) (f : arg5.view.ty.Contents (Elt Ideal)) :
    arg5.view.read (Elt Ideal) (arg5.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.1)) = bDW x0 x1 x2 x3 := by
  rw [runA_dw]
  exact (readsA_ok arg1 harg1 arg2 harg2 arg3 harg3 arg4 harg4 arg7 arg8 arg12 arg13 arg14 x0 x1 x2 x3).dw_read _ _
theorem endA_ds (hc0 : cond0_0 i) (f : arg6.view.ty.Contents (Elt Ideal)) :
    arg6.view.read (Elt Ideal) (arg6.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.1)) = bDS x0 x1 x2 x3 := by
  rw [runA_ds]
  exact ds_read x0 x1 x2 x3 _ (fun h b k i p row g hr hg => prA_apply arg1 harg1 arg2 harg2 arg3 harg3 arg4 harg4 arg7 arg8 arg12 arg13 arg14 arg15 x0 x1 x2 x3 h b k i p row g hr hg) _ _
theorem endA_xq (hc0 : cond0_0 i) (f : arg7.view.ty.Contents (Elt Ideal)) :
    arg7.view.read (Elt Ideal) (arg7.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.1)) = bXQ x0 := by
  rw [runA_xq]
  exact xq_read arg1 harg1 x0 _ _
theorem endA_sx (hc0 : cond0_0 i) (f : arg8.view.ty.Contents (Elt Ideal)) :
    arg8.view.read (Elt Ideal) (arg8.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.1)) = bSX x0 := by
  rw [runA_sx]
  exact sx_read arg1 harg1 x0 _ _
theorem endA_dyq (hc0 : cond0_0 i) (f : arg9.view.ty.Contents (Elt Ideal)) :
    arg9.view.read (Elt Ideal) (arg9.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.1)) = bDQ x1 := by
  rw [runA_dyq]
  exact dyq_read arg2 harg2 x1 _ _
theorem endA_sy (hc0 : cond0_0 i) (f : arg10.view.ty.Contents (Elt Ideal)) :
    arg10.view.read (Elt Ideal) (arg10.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.2.1)) = bSY x1 := by
  rw [runA_sy]
  exact sy_read arg2 harg2 x1 _ _
theorem endA_qp (hc0 : cond0_0 i) (f : arg11.view.ty.Contents (Elt Ideal)) :
    arg11.view.read (Elt Ideal) (arg11.view.writes (Elt Ideal) f ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1.2.2.2.2.2.2)) = bQP x2 x3 := by
  rw [runA_qp]
  exact (readsA_ok arg1 harg1 arg2 harg2 arg3 harg3 arg4 harg4 arg7 arg8 arg12 arg13 arg14 x0 x1 x2 x3).qp_read _ (fun h r a l => qtA_apply arg1 harg1 arg2 harg2 arg3 harg3 arg4 harg4 arg7 arg8 arg12 arg13 arg14 arg16 x0 x1 x2 x3 h r a l) _ _

/-! ## The points after it -/

theorem endB_dw (hc0 : ¬cond0_0 i) (f : arg5.view.ty.Contents (Elt Ideal)) :
    arg5.view.read (Elt Ideal) (arg5.view.writes (Elt Ideal) f ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (bXQ x0) (bSX x0) xs1 xs3 xs4).1.1)) = bDW x0 x1 x2 x3 := by
  rw [runB_dw]
  exact (readsB_ok arg2 harg2 arg3 harg3 arg4 harg4 arg7 harg7 arg8 harg8 arg12 arg13 harg13 arg14 x0 x1 x2 x3 xs1).dw_read _ _
theorem endB_ds (hc0 : ¬cond0_0 i) (f : arg6.view.ty.Contents (Elt Ideal)) :
    arg6.view.read (Elt Ideal) (arg6.view.writes (Elt Ideal) f ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (bXQ x0) (bSX x0) xs1 xs3 xs4).1.2.1)) = bDS x0 x1 x2 x3 := by
  rw [runB_ds]
  exact ds_read x0 x1 x2 x3 _ (fun h b k i p row g hr hg => prB_apply arg2 harg2 arg3 harg3 arg4 harg4 arg7 harg7 arg8 harg8 arg12 arg13 harg13 arg14 arg15 harg15 x0 x1 x2 x3 xs1 xs3 h b k i p row g hr hg) _ _
theorem endB_dyq (hc0 : ¬cond0_0 i) (f : arg9.view.ty.Contents (Elt Ideal)) :
    arg9.view.read (Elt Ideal) (arg9.view.writes (Elt Ideal) f ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (bXQ x0) (bSX x0) xs1 xs3 xs4).1.2.2.1)) = bDQ x1 := by
  rw [runB_dyq]
  exact dyq_read arg2 harg2 x1 _ _
theorem endB_sy (hc0 : ¬cond0_0 i) (f : arg10.view.ty.Contents (Elt Ideal)) :
    arg10.view.read (Elt Ideal) (arg10.view.writes (Elt Ideal) f ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (bXQ x0) (bSX x0) xs1 xs3 xs4).1.2.2.2.1)) = bSY x1 := by
  rw [runB_sy]
  exact sy_read arg2 harg2 x1 _ _
theorem endB_qp (hc0 : ¬cond0_0 i) (f : arg11.view.ty.Contents (Elt Ideal)) :
    arg11.view.read (Elt Ideal) (arg11.view.writes (Elt Ideal) f ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (bXQ x0) (bSX x0) xs1 xs3 xs4).1.2.2.2.2)) = bQP x2 x3 := by
  rw [runB_qp]
  exact (readsB_ok arg2 harg2 arg3 harg3 arg4 harg4 arg7 harg7 arg8 harg8 arg12 arg13 harg13 arg14 x0 x1 x2 x3 xs1).qp_read _ (fun h r a l => qtB_apply arg2 harg2 arg3 harg3 arg4 harg4 arg7 harg7 arg8 harg8 arg12 arg13 harg13 arg14 arg16 harg16 x0 x1 x2 x3 xs1 xs4 h r a l) _ _

end

end Cert.KernelIdeal.Hand

end
-- ==== Proof.Frame.lean ====
/- The kernel's run over the reals: every point leaves its blocks in the outputs' buffers, the first point also the quantised
   input, which the later points find there and the last point writes back. -/
module

public import proofs.«01_k».proof.Proof.Ends
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The input, which every point finds whole. -/
def xblk (c : Dev nD) : Vec Ideal S1024x2880 .bf16 := iblk m c 0 ⟨0, by decide⟩
theorem iblk0_eq (c : Dev nD) (t : Fin cfg0.N) : iblk m c 0 t = xblk m c := rfl

/-- The proof data: after a point each input's buffer holds its block, each output's the point's result, the quantised input
    and its scales at every point the same; the scratch at anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bDW (xblk m c) (iblk m c 1 t) (iblk m c 2 t) (iblk m c 3 t)
    | ⟨5, _⟩ => bDS (xblk m c) (iblk m c 1 t) (iblk m c 2 t) (iblk m c 3 t)
    | ⟨6, _⟩ => bXQ (xblk m c)
    | ⟨7, _⟩ => bSX (xblk m c)
    | ⟨8, _⟩ => bDQ (iblk m c 1 t)
    | ⟨9, _⟩ => bSY (iblk m c 1 t)
    | ⟨10, _⟩ => bQP (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = bDW (xblk m c) (iblk m c 1 t) (iblk m c 2 t) (iblk m c 3 t) := by dsimp only [dats]
theorem after0_5 (c : Dev nD) (t : Fin cfg0.N) : (dats m 0 c).after 5 t = bDS (xblk m c) (iblk m c 1 t) (iblk m c 2 t) (iblk m c 3 t) := by dsimp only [dats]
theorem after0_6 (c : Dev nD) (t : Fin cfg0.N) : (dats m 0 c).after 6 t = bXQ (xblk m c) := by dsimp only [dats]
theorem after0_7 (c : Dev nD) (t : Fin cfg0.N) : (dats m 0 c).after 7 t = bSX (xblk m c) := by dsimp only [dats]
theorem after0_8 (c : Dev nD) (t : Fin cfg0.N) : (dats m 0 c).after 8 t = bDQ (iblk m c 1 t) := by dsimp only [dats]
theorem after0_9 (c : Dev nD) (t : Fin cfg0.N) : (dats m 0 c).after 9 t = bSY (iblk m c 1 t) := by dsimp only [dats]
theorem after0_10 (c : Dev nD) (t : Fin cfg0.N) : (dats m 0 c).after 10 t = bQP (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Window 6 is idle exactly after the first point. -/
theorem idle0_6 (t : Fin cfg0.N) : cfg0.idle 6 (grid0.coords t) = !(k0_cond1 (grid0.coords t) == 1#1) := rfl
theorem live0_6 (t : Fin cfg0.N) (h0 : t.val % 30 = 0) : cfg0.idle 6 (grid0.coords t) = false := by
  rw [idle0_6, show k0_cond1 (grid0.coords t) = 1#1 from (hcond0_0 t).mpr h0]; rfl
theorem idleAt0_6 (t : Fin cfg0.N) (h0 : ¬ t.val % 30 = 0) : cfg0.idle 6 (grid0.coords t) = true := by
  have h : ¬ k0_cond1 (grid0.coords t) = 1#1 := fun h => h0 ((hcond0_0 t).mp h)
  rw [idle0_6, show (k0_cond1 (grid0.coords t) == 1#1) = false from beq_false_of_ne h]; rfl
/-- What the later points find in window 6's buffer is what the first point left. -/
theorem before0_6 (c : Dev nD) : ∀ (n : ℕ) (hn : n + 1 < cfg0.N) (d), (dats m 0 c).before 6 ⟨n + 1, hn⟩ d = bXQ (xblk m c)
  | n, hn, d => by
    have hN : n + 1 < 30 := lt_of_lt_of_eq hn N_0
    have hfl : (cfg0.win 6).flush ⟨n + 1 - 1, Nat.lt_of_le_of_lt (Nat.sub_le _ _) hn⟩ = false :=
      eq_false_of_ne_true fun h => by
        have := (flush0_6 _).mp h
        dsimp only at this
        omega
    rw [(dats m 0 c).before_of_pos 6 ⟨n + 1, hn⟩ (Nat.succ_ne_zero n) rfl d, hfl, if_neg Bool.false_ne_true]
    unfold Dat.left
    match n, hn with
    | 0, hn =>
      rw [live0_6 ⟨0 + 1 - 1, _⟩ rfl]
      exact after0_6 m c _
    | k + 1, hn =>
      rw [idleAt0_6 ⟨k + 1 + 1 - 1, _⟩ (by show ¬ (k + 1) % 30 = 0; omega)]
      exact before0_6 c k (Nat.lt_of_succ_lt hn) d
theorem before0_6_pos (c : Dev nD) (t : Fin cfg0.N) (h0 : ¬ t.val % 30 = 0) (d) : (dats m 0 c).before 6 t d = bXQ (xblk m c) := by
  obtain ⟨n, hn⟩ := t
  cases n with
  | zero => exact absurd rfl h0
  | succ n => exact before0_6 m c n hn d
/-- So at every point window 6's buffer is left at it. -/
theorem leaves0_6 (c : Dev nD) (t : Fin cfg0.N) : owns (c : Thread nD τ) (ms0_6 t) fullShare (bXQ (xblk m c)) ⊢ (dats m 0 c).leavesExact 6 t := by
  by_cases h0 : t.val % 30 = 0
  · unfold Dat.leavesExact
    rw [live0_6 t h0, after0_6]
  · by_cases hf : (cfg0.win 6).flush t = true
    · unfold Dat.leavesExact
      rw [idleAt0_6 t h0, hf, after0_6]
    · rw [(dats m 0 c).leavesExact_idle 6 t (idleAt0_6 t h0) (eq_false_of_ne_true hf)]
      simp only [before0_6_pos m c t h0]
      iintro H
      iexists (fun _ => default)
      iexact H

/-- Window 7 is idle exactly after the first point. -/
theorem idle0_7 (t : Fin cfg0.N) : cfg0.idle 7 (grid0.coords t) = !(k0_cond1 (grid0.coords t) == 1#1) := rfl
theorem live0_7 (t : Fin cfg0.N) (h0 : t.val % 30 = 0) : cfg0.idle 7 (grid0.coords t) = false := by
  rw [idle0_7, show k0_cond1 (grid0.coords t) = 1#1 from (hcond0_0 t).mpr h0]; rfl
theorem idleAt0_7 (t : Fin cfg0.N) (h0 : ¬ t.val % 30 = 0) : cfg0.idle 7 (grid0.coords t) = true := by
  have h : ¬ k0_cond1 (grid0.coords t) = 1#1 := fun h => h0 ((hcond0_0 t).mp h)
  rw [idle0_7, show (k0_cond1 (grid0.coords t) == 1#1) = false from beq_false_of_ne h]; rfl
/-- What the later points find in window 7's buffer is what the first point left. -/
theorem before0_7 (c : Dev nD) : ∀ (n : ℕ) (hn : n + 1 < cfg0.N) (d), (dats m 0 c).before 7 ⟨n + 1, hn⟩ d = bSX (xblk m c)
  | n, hn, d => by
    have hN : n + 1 < 30 := lt_of_lt_of_eq hn N_0
    have hfl : (cfg0.win 7).flush ⟨n + 1 - 1, Nat.lt_of_le_of_lt (Nat.sub_le _ _) hn⟩ = false :=
      eq_false_of_ne_true fun h => by
        have := (flush0_7 _).mp h
        dsimp only at this
        omega
    rw [(dats m 0 c).before_of_pos 7 ⟨n + 1, hn⟩ (Nat.succ_ne_zero n) rfl d, hfl, if_neg Bool.false_ne_true]
    unfold Dat.left
    match n, hn with
    | 0, hn =>
      rw [live0_7 ⟨0 + 1 - 1, _⟩ rfl]
      exact after0_7 m c _
    | k + 1, hn =>
      rw [idleAt0_7 ⟨k + 1 + 1 - 1, _⟩ (by show ¬ (k + 1) % 30 = 0; omega)]
      exact before0_7 c k (Nat.lt_of_succ_lt hn) d
theorem before0_7_pos (c : Dev nD) (t : Fin cfg0.N) (h0 : ¬ t.val % 30 = 0) (d) : (dats m 0 c).before 7 t d = bSX (xblk m c) := by
  obtain ⟨n, hn⟩ := t
  cases n with
  | zero => exact absurd rfl h0
  | succ n => exact before0_7 m c n hn d
/-- So at every point window 7's buffer is left at it. -/
theorem leaves0_7 (c : Dev nD) (t : Fin cfg0.N) : owns (c : Thread nD τ) (ms0_7 t) fullShare (bSX (xblk m c)) ⊢ (dats m 0 c).leavesExact 7 t := by
  by_cases h0 : t.val % 30 = 0
  · unfold Dat.leavesExact
    rw [live0_7 t h0, after0_7]
  · by_cases hf : (cfg0.win 7).flush t = true
    · unfold Dat.leavesExact
      rw [idleAt0_7 t h0, hf, after0_7]
    · rw [(dats m 0 c).leavesExact_idle 7 t (idleAt0_7 t h0) (eq_false_of_ne_true hf)]
      simp only [before0_7_pos m c t h0]
      iintro H
      iexists (fun _ => default)
      iexact H

/-! ## The body obligation -/

/-- What the body is called with at point `t`, the windows one by one, and what it returns. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp (MT nD τ sig Unit (Elt Ideal) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 12800000 in
/-- The body at any point: at the first it quantises the input, at the later ones it finds it quantised. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [iblk0_eq]
  by_cases h0 : t.val % 30 = 0
  · skip
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ _ _ _ _ ((hcond0_0 t).mpr h0) (xblk m c) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, ⟨%f4, H4⟩, ⟨%f5, H5⟩, ⟨%f6, H6⟩, ⟨%f7, H7⟩, ⟨%f8, H8⟩, ⟨%f9, H9⟩, ⟨%f10, H10⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]
    · iexact H0
    isplitl [H1]
    · iexact H1
    isplitl [H2]
    · iexact H2
    isplitl [H3]
    · iexact H3
    isplitl [H4]
    · unfold owns; iexists _; isplitr
      swap; · iexact H4
      ipureintro; exact endA_dw (hc0 := (hcond0_0 t).mpr h0) ..
    isplitl [H5]
    · unfold owns; iexists _; isplitr
      swap; · iexact H5
      ipureintro; exact endA_ds (hc0 := (hcond0_0 t).mpr h0) ..
    isplitl [H6]
    · iapply (leaves0_6 m c t)
      unfold owns; iexists _; isplitr
      swap; · iexact H6
      ipureintro; exact endA_xq (hc0 := (hcond0_0 t).mpr h0) ..
    isplitl [H7]
    · iapply (leaves0_7 m c t)
      unfold owns; iexists _; isplitr
      swap; · iexact H7
      ipureintro; exact endA_sx (hc0 := (hcond0_0 t).mpr h0) ..
    isplitl [H8]
    · unfold owns; iexists _; isplitr
      swap; · iexact H8
      ipureintro; exact endA_dyq (hc0 := (hcond0_0 t).mpr h0) ..
    isplitl [H9]
    · unfold owns; iexists _; isplitr
      swap; · iexact H9
      ipureintro; exact endA_sy (hc0 := (hcond0_0 t).mpr h0) ..
    unfold owns; iexists _; isplitr
    swap; · iexact H10
    ipureintro; exact endA_qp (hc0 := (hcond0_0 t).mpr h0) ..
  · simp only [before0_6_pos m c t h0, before0_7_pos m c t h0]
    iintro ⟨⟨⟨HS0, ⟨%e1, HS1⟩, HS2, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ _ _ _ _ _ _ _ _ (fun h => h0 ((hcond0_0 t).mp h)) (xblk m c) (iblk m c 1 t) (iblk m c 2 t) (iblk m c 3 t) (bXQ (xblk m c)) (bSX (xblk m c)) e1 e3 e4).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, ⟨%f4, H4⟩, ⟨%f5, H5⟩, H6, H7, ⟨%f8, H8⟩, ⟨%f9, H9⟩, ⟨%f10, H10⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]
    · iexact H0
    isplitl [H1]
    · iexact H1
    isplitl [H2]
    · iexact H2
    isplitl [H3]
    · iexact H3
    isplitl [H4]
    · unfold owns; iexists _; isplitr
      swap; · iexact H4
      ipureintro; exact endB_dw (hc0 := (fun h => h0 ((hcond0_0 t).mp h))) ..
    isplitl [H5]
    · unfold owns; iexists _; isplitr
      swap; · iexact H5
      ipureintro; exact endB_ds (hc0 := (fun h => h0 ((hcond0_0 t).mp h))) ..
    isplitl [H6]
    · iapply (leaves0_6 m c t)
      iexact H6
    isplitl [H7]
    · iapply (leaves0_7 m c t)
      iexact H7
    isplitl [H8]
    · unfold owns; iexists _; isplitr
      swap; · iexact H8
      ipureintro; exact endB_dyq (hc0 := (fun h => h0 ((hcond0_0 t).mp h))) ..
    isplitl [H9]
    · unfold owns; iexists _; isplitr
      swap; · iexact H9
      ipureintro; exact endB_sy (hc0 := (fun h => h0 ((hcond0_0 t).mp h))) ..
    unfold owns; iexists _; isplitr
    swap; · iexact H10
    ipureintro; exact endB_qp (hc0 := (fun h => h0 ((hcond0_0 t).mp h))) ..

/-- The body table's row at point `t`'s slots is the body as `bodyAt0` spells it. -/
theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Whole.lean ====
/- The kernel's results as whole arrays: each grid point's blocks are the blocks of one array, and the points' blocks cover it. -/
module

public import proofs.«01_k».proof.Proof.Frame
public import Idealize.ShloMosaic.Lib.Pipeline.Value

@[expose] public section

set_option maxRecDepth 16384

noncomputable section

namespace Cert.KernelIdeal.Hand

open Cert.KernelIdeal.Gen Cert.Quant
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The whole arrays, in the kernel's form -/
section
variable (X : Vec Ideal S1024x2880 .bf16) (Y : Vec Ideal S1024x7680 .bf16) (W : Vec Ideal S7680x2880 .f32) (S : Vec Ideal S7680x90 .f32)

/-- The quantised output gradient and its scales. -/
def gDQ : Vec Ideal S1024x7680 .fp8e5m2 := fun y => quantOf my 0xC760#16 0x4760#16 Y (y 0) (y 1)
def gSY : Vec Ideal S1x7680 .f32 := fun y => scaleOf my Y (y 1)
/-- A weight over its group's scale. -/
def gV (r : Fin 7680) (c : Fin 2880) : EReal := W (ix2 r c) * Scalar.divf (F := Ideal) (φ := .f32) (Scalar.ofBits .f32 0x3F800000#32) (S (ix2 r ⟨c.val / 32, by omega⟩))
/-- The product, scaled back. -/
def gAcc (r : Fin 7680) (c : Fin 2880) : EReal := ∑ k : Fin 1024, (gDQ Y (ix2 k r) : EReal) * bXQ X (ix2 k c)
def gD (r : Fin 7680) (c : Fin 2880) : EReal := gAcc X Y r c * scaleOf my Y r * scaleOf mx X c
def gFD (r : Fin 7680) (c : Fin 2880) : EReal := facS (gV W S r c) * gD X Y r c
/-- The weight gradient, the scale gradient, the packed codes. -/
def gDW : Vec Ideal S7680x2880 .f32 := fun y => gradS (gV W S (y 0) (y 1)) (gD X Y (y 0) (y 1))
def gDS : Vec Ideal S7680x90 .f32 := fun y => (∑ j : Fin 8, ∑ k : Fin 4, gFD X Y W S (y 0) (gcol (y 1) j k)) * Ideal.ofBits .f32 0x3D88D677#32
def gQP : Vec Ideal S7680x1440 .i8 := fun y =>
  (byteS (gV W S (y 0) ⟨2 * (y 1).val, by have : (y 1).val < 1440 := (y 1).isLt; omega⟩) &&& 15#8)
    ||| ((byteS (gV W S (y 0) ⟨2 * (y 1).val + 1, by have : (y 1).val < 1440 := (y 1).isLt; omega⟩) &&& 15#8) <<< 4)

/-! ## A point's blocks are blocks of them -/
variable (x1 : Vec Ideal S1024x256 .bf16) (x2 : Vec Ideal S256x2880 .f32) (x3 : Vec Ideal S256x90 .f32) (R : Fin 256 → Fin 7680)

theorem sy_glob (h1 : ∀ k r, x1 (ix2 k r) = Y (ix2 k (R r))) (r : Fin 256) : scaleOf my x1 r = scaleOf my Y (R r) :=
  scaleOf_congr _ _ _ _ _ fun k => h1 k r
theorem dq_glob (h1 : ∀ k r, x1 (ix2 k r) = Y (ix2 k (R r))) (k : Fin 1024) (r : Fin 256) : bDQ x1 (ix2 k r) = gDQ Y (ix2 k (R r)) :=
  quantOf_congr _ _ _ _ _ _ _ _ fun k => h1 k r
theorem v_glob (h2 : ∀ r c, x2 (ix2 r c) = W (ix2 (R r) c)) (h3 : ∀ r c, x3 (ix2 r c) = S (ix2 (R r) c)) (r : Fin 256) (c : Fin 2880) :
    sV x2 x3 r c = gV W S (R r) c := by
  unfold sV gV; rw [h2, h3]
theorem d_glob (h1 : ∀ k r, x1 (ix2 k r) = Y (ix2 k (R r))) (r : Fin 256) (c : Fin 2880) : sD X x1 r c = gD X Y (R r) c := by
  unfold sD gD sAcc gAcc
  rw [sy_glob Y x1 R h1]
  simp only [dq_glob Y x1 R h1]
theorem dw_glob (h1 : ∀ k r, x1 (ix2 k r) = Y (ix2 k (R r))) (h2 : ∀ r c, x2 (ix2 r c) = W (ix2 (R r) c)) (h3 : ∀ r c, x3 (ix2 r c) = S (ix2 (R r) c))
    (r : Fin 256) (c : Fin 2880) : bDW X x1 x2 x3 (ix2 r c) = gDW X Y W S (ix2 (R r) c) := by
  show gradS (sV x2 x3 r c) (sD X x1 r c) = gradS (gV W S (R r) c) (gD X Y (R r) c)
  rw [v_glob W S x2 x3 R h2 h3, d_glob X Y x1 R h1]
theorem ds_glob (h1 : ∀ k r, x1 (ix2 k r) = Y (ix2 k (R r))) (h2 : ∀ r c, x2 (ix2 r c) = W (ix2 (R r) c)) (h3 : ∀ r c, x3 (ix2 r c) = S (ix2 (R r) c))
    (r : Fin 256) (g : Fin 90) : bDS X x1 x2 x3 (ix2 r g) = gDS X Y W S (ix2 (R r) g) := by
  show (∑ j : Fin 8, sPart X x1 x2 x3 r g j) * _ = (∑ j : Fin 8, ∑ k : Fin 4, gFD X Y W S (R r) (gcol g j k)) * _
  unfold sPart sFD gFD
  simp only [v_glob W S x2 x3 R h2 h3, d_glob X Y x1 R h1]
theorem qp_glob (h2 : ∀ r c, x2 (ix2 r c) = W (ix2 (R r) c)) (h3 : ∀ r c, x3 (ix2 r c) = S (ix2 (R r) c))
    (r : Fin 256) (c : Fin 1440) : bQP x2 x3 (ix2 r c) = gQP W S (ix2 (R r) c) := by
  show (byteS (sV x2 x3 r _) &&& 15#8) ||| ((byteS (sV x2 x3 r _) &&& 15#8) <<< 4) = (byteS (gV W S (R r) _) &&& 15#8) ||| ((byteS (gV W S (R r) _) &&& 15#8) <<< 4)
  rw [v_glob W S x2 x3 R h2 h3, v_glob W S x2 x3 R h2 h3]
  rfl
end

/-! ## The windows' blocks -/
variable (m : (ℓ : Loc nD τ sig) → Buf (Elt Ideal) ℓ) (ρ : Dev nD → PrngReg) (c : Dev nD)

/-- The array row under row `r` of point `t`'s blocks. -/
def rowAt (t : Fin cfg0.N) (r : Fin 256) : Fin 7680 := ⟨t.val * 256 + r.val, by have h : t.val < 30 := lt_of_lt_of_eq t.isLt N_0; omega⟩
/-- The first and the last point. -/
def tFirst : Fin cfg0.N := ⟨0, by decide⟩
def tLast : Fin cfg0.N := ⟨29, by decide⟩
/-- The point whose blocks hold row `r`. -/
def ptOf (r : Fin 7680) : Fin cfg0.N := ⟨r.val / 256, by rw [show cfg0.N = 30 from N_0]; omega⟩
theorem rowAt_ptOf (r : Fin 7680) : rowAt (ptOf r) ⟨r.val % 256, Nat.mod_lt _ (by decide)⟩ = r := by
  apply Fin.ext; show r.val / 256 * 256 + r.val % 256 = r.val; omega

theorem idx0_facts : ∀ t : Fin cfg0.N, win0_0.index t (0 : Fin 2) = 0 ∧ win0_0.index t (1 : Fin 2) = 0 := (by decide +kernel : ∀ t : Fin grid0.N, _)
theorem idx6_facts : ∀ t : Fin cfg0.N, win0_6.index t (0 : Fin 2) = 0 ∧ win0_6.index t (1 : Fin 2) = 0 := (by decide +kernel : ∀ t : Fin grid0.N, _)
theorem idx7_facts : ∀ t : Fin cfg0.N, win0_7.index t (0 : Fin 2) = 0 ∧ win0_7.index t (1 : Fin 2) = 0 := (by decide +kernel : ∀ t : Fin grid0.N, _)
theorem idx2_facts : ∀ t : Fin cfg0.N, win0_2.index t (0 : Fin 2) = t.val ∧ win0_2.index t (1 : Fin 2) = 0 := (by decide +kernel : ∀ t : Fin grid0.N, _)
theorem idx3_facts : ∀ t : Fin cfg0.N, win0_3.index t (0 : Fin 2) = t.val ∧ win0_3.index t (1 : Fin 2) = 0 := (by decide +kernel : ∀ t : Fin grid0.N, _)
theorem idx4_facts : ∀ t : Fin cfg0.N, win0_4.index t (0 : Fin 2) = t.val ∧ win0_4.index t (1 : Fin 2) = 0 := (by decide +kernel : ∀ t : Fin grid0.N, _)
theorem idx5_facts : ∀ t : Fin cfg0.N, win0_5.index t (0 : Fin 2) = t.val ∧ win0_5.index t (1 : Fin 2) = 0 := (by decide +kernel : ∀ t : Fin grid0.N, _)
theorem idx10_facts : ∀ t : Fin cfg0.N, win0_10.index t (0 : Fin 2) = t.val ∧ win0_10.index t (1 : Fin 2) = 0 := (by decide +kernel : ∀ t : Fin grid0.N, _)
theorem idx1_facts : ∀ t : Fin cfg0.N, win0_1.index t (0 : Fin 2) = 0 ∧ win0_1.index t (1 : Fin 2) = t.val := (by decide +kernel : ∀ t : Fin grid0.N, _)
theorem idx8_facts : ∀ t : Fin cfg0.N, win0_8.index t (0 : Fin 2) = 0 ∧ win0_8.index t (1 : Fin 2) = t.val := (by decide +kernel : ∀ t : Fin grid0.N, _)
theorem idx9_facts : ∀ t : Fin cfg0.N, win0_9.index t (0 : Fin 2) = 0 ∧ win0_9.index t (1 : Fin 2) = t.val := (by decide +kernel : ∀ t : Fin grid0.N, _)
theorem wemb0 (t : Fin cfg0.N) (r : Fin 1024) (q : Fin 2880) : ((cfg0.win 0).blk t).view.emb (ix2 r q : (⟨2, ![1024, 2880]⟩ : Shape).Idx) = (ix2 r q : (⟨2, ![1024, 2880]⟩ : Shape).Idx) := by
  obtain ⟨e0, e1⟩ := idx0_facts t
  funext a; apply Fin.ext
  match a with
  | ⟨0, _⟩ => show win0_0.index t (0 : Fin 2) * 1024 + 1 * r.val = r.val; omega
  | ⟨1, _⟩ => show win0_0.index t (1 : Fin 2) * 2880 + 1 * q.val = q.val; omega
theorem wemb6 (t : Fin cfg0.N) (r : Fin 1024) (q : Fin 2880) : ((cfg0.win 6).blk t).view.emb (ix2 r q : (⟨2, ![1024, 2880]⟩ : Shape).Idx) = (ix2 r q : (⟨2, ![1024, 2880]⟩ : Shape).Idx) := by
  obtain ⟨e0, e1⟩ := idx6_facts t
  funext a; apply Fin.ext
  match a with
  | ⟨0, _⟩ => show win0_6.index t (0 : Fin 2) * 1024 + 1 * r.val = r.val; omega
  | ⟨1, _⟩ => show win0_6.index t (1 : Fin 2) * 2880 + 1 * q.val = q.val; omega
theorem wemb7 (t : Fin cfg0.N) (r : Fin 1) (q : Fin 2880) : ((cfg0.win 7).blk t).view.emb (ix2 r q : (⟨2, ![1, 2880]⟩ : Shape).Idx) = (ix2 r q : (⟨2, ![1, 2880]⟩ : Shape).Idx) := by
  obtain ⟨e0, e1⟩ := idx7_facts t
  funext a; apply Fin.ext
  match a with
  | ⟨0, _⟩ => show win0_7.index t (0 : Fin 2) * 1 + 1 * r.val = r.val; omega
  | ⟨1, _⟩ => show win0_7.index t (1 : Fin 2) * 2880 + 1 * q.val = q.val; omega
theorem wemb2 (t : Fin cfg0.N) (r : Fin 256) (q : Fin 2880) : ((cfg0.win 2).blk t).view.emb (ix2 r q : (⟨2, ![256, 2880]⟩ : Shape).Idx) = (ix2 (rowAt t r) q : (⟨2, ![7680, 2880]⟩ : Shape).Idx) := by
  obtain ⟨e0, e1⟩ := idx2_facts t
  funext a; apply Fin.ext
  match a with
  | ⟨0, _⟩ => show win0_2.index t (0 : Fin 2) * 256 + 1 * r.val = t.val * 256 + r.val; omega
  | ⟨1, _⟩ => show win0_2.index t (1 : Fin 2) * 2880 + 1 * q.val = q.val; omega
theorem wemb3 (t : Fin cfg0.N) (r : Fin 256) (q : Fin 90) : ((cfg0.win 3).blk t).view.emb (ix2 r q : (⟨2, ![256, 90]⟩ : Shape).Idx) = (ix2 (rowAt t r) q : (⟨2, ![7680, 90]⟩ : Shape).Idx) := by
  obtain ⟨e0, e1⟩ := idx3_facts t
  funext a; apply Fin.ext
  match a with
  | ⟨0, _⟩ => show win0_3.index t (0 : Fin 2) * 256 + 1 * r.val = t.val * 256 + r.val; omega
  | ⟨1, _⟩ => show win0_3.index t (1 : Fin 2) * 90 + 1 * q.val = q.val; omega
theorem wemb4 (t : Fin cfg0.N) (r : Fin 256) (q : Fin 2880) : ((cfg0.win 4).blk t).view.emb (ix2 r q : (⟨2, ![256, 2880]⟩ : Shape).Idx) = (ix2 (rowAt t r) q : (⟨2, ![7680, 2880]⟩ : Shape).Idx) := by
  obtain ⟨e0, e1⟩ := idx4_facts t
  funext a; apply Fin.ext
  match a with
  | ⟨0, _⟩ => show win0_4.index t (0 : Fin 2) * 256 + 1 * r.val = t.val * 256 + r.val; omega
  | ⟨1, _⟩ => show win0_4.index t (1 : Fin 2) * 2880 + 1 * q.val = q.val; omega
theorem wemb5 (t : Fin cfg0.N) (r : Fin 256) (q : Fin 90) : ((cfg0.win 5).blk t).view.emb (ix2 r q : (⟨2, ![256, 90]⟩ : Shape).Idx) = (ix2 (rowAt t r) q : (⟨2, ![7680, 90]⟩ : Shape).Idx) := by
  obtain ⟨e0, e1⟩ := idx5_facts t
  funext a; apply Fin.ext
  match a with
  | ⟨0, _⟩ => show win0_5.index t (0 : Fin 2) * 256 + 1 * r.val = t.val * 256 + r.val; omega
  | ⟨1, _⟩ => show win0_5.index t (1 : Fin 2) * 90 + 1 * q.val = q.val; omega
theorem wemb10 (t : Fin cfg0.N) (r : Fin 256) (q : Fin 1440) : ((cfg0.win 10).blk t).view.emb (ix2 r q : (⟨2, ![256, 1440]⟩ : Shape).Idx) = (ix2 (rowAt t r) q : (⟨2, ![7680, 1440]⟩ : Shape).Idx) := by
  obtain ⟨e0, e1⟩ := idx10_facts t
  funext a; apply Fin.ext
  match a with
  | ⟨0, _⟩ => show win0_10.index t (0 : Fin 2) * 256 + 1 * r.val = t.val * 256 + r.val; omega
  | ⟨1, _⟩ => show win0_10.index t (1 : Fin 2) * 1440 + 1 * q.val = q.val; omega
theorem wemb1 (t : Fin cfg0.N) (q : Fin 1024) (r : Fin 256) : ((cfg0.win 1).blk t).view.emb (ix2 q r : (⟨2, ![1024, 256]⟩ : Shape).Idx) = (ix2 q (rowAt t r) : (⟨2, ![1024, 7680]⟩ : Shape).Idx) := by
  obtain ⟨e0, e1⟩ := idx1_facts t
  funext a; apply Fin.ext
  match a with
  | ⟨0, _⟩ => show win0_1.index t (0 : Fin 2) * 1024 + 1 * q.val = q.val; omega
  | ⟨1, _⟩ => show win0_1.index t (1 : Fin 2) * 256 + 1 * r.val = t.val * 256 + r.val; omega
theorem wemb8 (t : Fin cfg0.N) (q : Fin 1024) (r : Fin 256) : ((cfg0.win 8).blk t).view.emb (ix2 q r : (⟨2, ![1024, 256]⟩ : Shape).Idx) = (ix2 q (rowAt t r) : (⟨2, ![1024, 7680]⟩ : Shape).Idx) := by
  obtain ⟨e0, e1⟩ := idx8_facts t
  funext a; apply Fin.ext
  match a with
  | ⟨0, _⟩ => show win0_8.index t (0 : Fin 2) * 1024 + 1 * q.val = q.val; omega
  | ⟨1, _⟩ => show win0_8.index t (1 : Fin 2) * 256 + 1 * r.val = t.val * 256 + r.val; omega
theorem wemb9 (t : Fin cfg0.N) (q : Fin 1) (r : Fin 256) : ((cfg0.win 9).blk t).view.emb (ix2 q r : (⟨2, ![1, 256]⟩ : Shape).Idx) = (ix2 q (rowAt t r) : (⟨2, ![1, 7680]⟩ : Shape).Idx) := by
  obtain ⟨e0, e1⟩ := idx9_facts t
  funext a; apply Fin.ext
  match a with
  | ⟨0, _⟩ => show win0_9.index t (0 : Fin 2) * 1 + 1 * q.val = q.val; omega
  | ⟨1, _⟩ => show win0_9.index t (1 : Fin 2) * 256 + 1 * r.val = t.val * 256 + r.val; omega

/-- The region's input arrays. -/
abbrev aX : Vec Ideal S1024x2880 .bf16 := V m c main_v0
abbrev aY : Vec Ideal S1024x7680 .bf16 := V m c main_v1
abbrev aW : Vec Ideal S7680x2880 .f32 := V m c main_arg2
abbrev aS : Vec Ideal S7680x90 .f32 := V m c main_arg3

theorem xblk_eq : xblk m c = aX m c := by
  show (iblk m c 0 tFirst : Vec Ideal S1024x2880 .bf16) = _
  funext y
  rw [eq_ix2 y]
  show V m c main_v0 (((cfg0.win 0).blk tFirst).view.emb (ix2 (y 0) (y 1) : S1024x2880.Idx)) = _
  exact congrArg (V m c main_v0) (wemb0 tFirst (y 0) (y 1))
theorem iblk1_apply (t : Fin cfg0.N) (k : Fin 1024) (r : Fin 256) : (iblk m c 1 t : Vec Ideal S1024x256 .bf16) (ix2 k r) = aY m c (ix2 k (rowAt t r)) := by
  show V m c main_v1 (((cfg0.win 1).blk t).view.emb (ix2 k r : S1024x256.Idx)) = _
  exact congrArg (V m c main_v1) (wemb1 t k r)
theorem iblk2_apply (t : Fin cfg0.N) (r : Fin 256) (q : Fin 2880) : (iblk m c 2 t : Vec Ideal S256x2880 .f32) (ix2 r q) = aW m c (ix2 (rowAt t r) q) := by
  show V m c main_arg2 (((cfg0.win 2).blk t).view.emb (ix2 r q : S256x2880.Idx)) = _
  exact congrArg (V m c main_arg2) (wemb2 t r q)
theorem iblk3_apply (t : Fin cfg0.N) (r : Fin 256) (q : Fin 90) : (iblk m c 3 t : Vec Ideal S256x90 .f32) (ix2 r q) = aS m c (ix2 (rowAt t r) q) := by
  show V m c main_arg3 (((cfg0.win 3).blk t).view.emb (ix2 r q : S256x90.Idx)) = _
  exact congrArg (V m c main_arg3) (wemb3 t r q)

end Cert.KernelIdeal.Hand

end
-- ==== Proof.Final.lean ====
/- The kernel's final arrays over the reals: what its points wrote, block after block, is the whole arrays. -/
module

public import proofs.«01_k».proof.Proof.Whole

@[expose] public section

set_option maxRecDepth 16384

noncomputable section

namespace Cert.KernelIdeal.Hand

open Cert.KernelIdeal.Gen Cert.Quant
open Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg) (c : Dev nD)

/-- A block whose elements are an array's is the array's block. -/
theorem cut4 (t : Fin cfg0.N) (B : Vec Ideal S256x2880 .f32) (G : Vec Ideal S7680x2880 .f32) (h : ∀ (r : Fin 256) (q : Fin 2880), B (ix2 r q) = G (ix2 (rowAt t r) q)) :
    (cfg0.win 4).cut (grid0.coords t) B = ((cfg0.win 4).blk t).view.read (Elt Ideal) G := by
  funext (y : S256x2880.Idx)
  obtain ⟨r, q, rfl⟩ : ∃ (r : Fin 256) (q : Fin 2880), y = ix2 r q := ⟨y 0, y 1, eq_ix2 y⟩
  show B (ix2 r q) = G (((cfg0.win 4).blk t).view.emb (ix2 r q : S256x2880.Idx))
  exact (h r q).trans (congrArg G (wemb4 t r q)).symm
theorem cover4 (i : S7680x2880.Idx) : ∃ t : Fin cfg0.N, (cfg0.win 4).flush t = true ∧ i ∈ ((cfg0.win 4).blk t).view.set := by
  refine ⟨ptOf (i 0), flush0_4 _, ?_⟩
  have e : ((cfg0.win 4).blk (ptOf (i 0))).view.emb (ix2 ⟨(i 0).val % 256, Nat.mod_lt _ (by decide)⟩ (i 1) : S256x2880.Idx) = i := (wemb4 (ptOf (i 0)) ⟨(i 0).val % 256, Nat.mod_lt _ (by decide)⟩ (i 1)).trans ((congrArg (fun r => ix2 r (i 1)) (rowAt_ptOf (i 0))).trans (eq_ix2 i).symm)
  exact Eq.subst (motive := fun j => j ∈ ((cfg0.win 4).blk (ptOf (i 0))).view.set) e (((cfg0.win 4).blk (ptOf (i 0))).view.emb_mem_set _)
theorem final4_of (G : Vec Ideal S7680x2880 .f32) (h : ∀ t, (dats m 0 c).flushed 4 t = ((cfg0.win 4).blk t).view.read (Elt Ideal) G) :
    (dats m 0 c).arrAt 4 cfg0.N = G :=
  (dats m 0 c).arrAt_eq_of_cover 4 G (fun t _ => h t) cover4
theorem flushed4 (t : Fin cfg0.N) : (dats m 0 c).flushed 4 t = (cfg0.win 4).cut (grid0.coords t) (bDW (xblk m c) (iblk m c 1 t) (iblk m c 2 t) (iblk m c 3 t)) := by
  show (cfg0.win 4).cut (grid0.coords t) ((dats m 0 c).after 4 t) = _
  rw [after0_4]
theorem pt4 (t : Fin cfg0.N) (r : Fin 256) (q : Fin 2880) : (bDW (xblk m c) (iblk m c 1 t) (iblk m c 2 t) (iblk m c 3 t) : Vec Ideal S256x2880 .f32) (ix2 r q) = (gDW (aX m c) (aY m c) (aW m c) (aS m c) : Vec Ideal S7680x2880 .f32) (ix2 (rowAt t r) q) := by
  rw [xblk_eq]
  exact (dw_glob _ _ _ _ _ _ _ (rowAt t) (iblk1_apply m c t) (iblk2_apply m c t) (iblk3_apply m c t) r q)
theorem final4 : (dats m 0 c).arrAt 4 cfg0.N = (gDW (aX m c) (aY m c) (aW m c) (aS m c) : Vec Ideal S7680x2880 .f32) :=
  final4_of m c _ fun t => (flushed4 m c t).trans (cut4 t _ _ (pt4 m c t))
/-- A block whose elements are an array's is the array's block. -/
theorem cut5 (t : Fin cfg0.N) (B : Vec Ideal S256x90 .f32) (G : Vec Ideal S7680x90 .f32) (h : ∀ (r : Fin 256) (q : Fin 90), B (ix2 r q) = G (ix2 (rowAt t r) q)) :
    (cfg0.win 5).cut (grid0.coords t) B = ((cfg0.win 5).blk t).view.read (Elt Ideal) G := by
  funext (y : S256x90.Idx)
  obtain ⟨r, q, rfl⟩ : ∃ (r : Fin 256) (q : Fin 90), y = ix2 r q := ⟨y 0, y 1, eq_ix2 y⟩
  show B (ix2 r q) = G (((cfg0.win 5).blk t).view.emb (ix2 r q : S256x90.Idx))
  exact (h r q).trans (congrArg G (wemb5 t r q)).symm
theorem cover5 (i : S7680x90.Idx) : ∃ t : Fin cfg0.N, (cfg0.win 5).flush t = true ∧ i ∈ ((cfg0.win 5).blk t).view.set := by
  refine ⟨ptOf (i 0), flush0_5 _, ?_⟩
  have e : ((cfg0.win 5).blk (ptOf (i 0))).view.emb (ix2 ⟨(i 0).val % 256, Nat.mod_lt _ (by decide)⟩ (i 1) : S256x90.Idx) = i := (wemb5 (ptOf (i 0)) ⟨(i 0).val % 256, Nat.mod_lt _ (by decide)⟩ (i 1)).trans ((congrArg (fun r => ix2 r (i 1)) (rowAt_ptOf (i 0))).trans (eq_ix2 i).symm)
  exact Eq.subst (motive := fun j => j ∈ ((cfg0.win 5).blk (ptOf (i 0))).view.set) e (((cfg0.win 5).blk (ptOf (i 0))).view.emb_mem_set _)
theorem final5_of (G : Vec Ideal S7680x90 .f32) (h : ∀ t, (dats m 0 c).flushed 5 t = ((cfg0.win 5).blk t).view.read (Elt Ideal) G) :
    (dats m 0 c).arrAt 5 cfg0.N = G :=
  (dats m 0 c).arrAt_eq_of_cover 5 G (fun t _ => h t) cover5
theorem flushed5 (t : Fin cfg0.N) : (dats m 0 c).flushed 5 t = (cfg0.win 5).cut (grid0.coords t) (bDS (xblk m c) (iblk m c 1 t) (iblk m c 2 t) (iblk m c 3 t)) := by
  show (cfg0.win 5).cut (grid0.coords t) ((dats m 0 c).after 5 t) = _
  rw [after0_5]
theorem pt5 (t : Fin cfg0.N) (r : Fin 256) (q : Fin 90) : (bDS (xblk m c) (iblk m c 1 t) (iblk m c 2 t) (iblk m c 3 t) : Vec Ideal S256x90 .f32) (ix2 r q) = (gDS (aX m c) (aY m c) (aW m c) (aS m c) : Vec Ideal S7680x90 .f32) (ix2 (rowAt t r) q) := by
  rw [xblk_eq]
  exact (ds_glob _ _ _ _ _ _ _ (rowAt t) (iblk1_apply m c t) (iblk2_apply m c t) (iblk3_apply m c t) r q)
theorem final5 : (dats m 0 c).arrAt 5 cfg0.N = (gDS (aX m c) (aY m c) (aW m c) (aS m c) : Vec Ideal S7680x90 .f32) :=
  final5_of m c _ fun t => (flushed5 m c t).trans (cut5 t _ _ (pt5 m c t))
/-- A block whose elements are an array's is the array's block. -/
theorem cut10 (t : Fin cfg0.N) (B : Vec Ideal S256x1440 .i8) (G : Vec Ideal S7680x1440 .i8) (h : ∀ (r : Fin 256) (q : Fin 1440), B (ix2 r q) = G (ix2 (rowAt t r) q)) :
    (cfg0.win 10).cut (grid0.coords t) B = ((cfg0.win 10).blk t).view.read (Elt Ideal) G := by
  funext (y : S256x1440.Idx)
  obtain ⟨r, q, rfl⟩ : ∃ (r : Fin 256) (q : Fin 1440), y = ix2 r q := ⟨y 0, y 1, eq_ix2 y⟩
  show B (ix2 r q) = G (((cfg0.win 10).blk t).view.emb (ix2 r q : S256x1440.Idx))
  exact (h r q).trans (congrArg G (wemb10 t r q)).symm
theorem cover10 (i : S7680x1440.Idx) : ∃ t : Fin cfg0.N, (cfg0.win 10).flush t = true ∧ i ∈ ((cfg0.win 10).blk t).view.set := by
  refine ⟨ptOf (i 0), flush0_10 _, ?_⟩
  have e : ((cfg0.win 10).blk (ptOf (i 0))).view.emb (ix2 ⟨(i 0).val % 256, Nat.mod_lt _ (by decide)⟩ (i 1) : S256x1440.Idx) = i := (wemb10 (ptOf (i 0)) ⟨(i 0).val % 256, Nat.mod_lt _ (by decide)⟩ (i 1)).trans ((congrArg (fun r => ix2 r (i 1)) (rowAt_ptOf (i 0))).trans (eq_ix2 i).symm)
  exact Eq.subst (motive := fun j => j ∈ ((cfg0.win 10).blk (ptOf (i 0))).view.set) e (((cfg0.win 10).blk (ptOf (i 0))).view.emb_mem_set _)
theorem final10_of (G : Vec Ideal S7680x1440 .i8) (h : ∀ t, (dats m 0 c).flushed 10 t = ((cfg0.win 10).blk t).view.read (Elt Ideal) G) :
    (dats m 0 c).arrAt 10 cfg0.N = G :=
  (dats m 0 c).arrAt_eq_of_cover 10 G (fun t _ => h t) cover10
theorem flushed10 (t : Fin cfg0.N) : (dats m 0 c).flushed 10 t = (cfg0.win 10).cut (grid0.coords t) (bQP (iblk m c 2 t) (iblk m c 3 t)) := by
  show (cfg0.win 10).cut (grid0.coords t) ((dats m 0 c).after 10 t) = _
  rw [after0_10]
theorem pt10 (t : Fin cfg0.N) (r : Fin 256) (q : Fin 1440) : (bQP (iblk m c 2 t) (iblk m c 3 t) : Vec Ideal S256x1440 .i8) (ix2 r q) = (gQP (aW m c) (aS m c) : Vec Ideal S7680x1440 .i8) (ix2 (rowAt t r) q) := by
  skip
  exact (qp_glob _ _ _ _ (rowAt t) (iblk2_apply m c t) (iblk3_apply m c t) r q)
theorem final10 : (dats m 0 c).arrAt 10 cfg0.N = (gQP (aW m c) (aS m c) : Vec Ideal S7680x1440 .i8) :=
  final10_of m c _ fun t => (flushed10 m c t).trans (cut10 t _ _ (pt10 m c t))
/-- A block whose elements are an array's is the array's block. -/
theorem cut8 (t : Fin cfg0.N) (B : Vec Ideal S1024x256 .fp8e5m2) (G : Vec Ideal S1024x7680 .fp8e5m2) (h : ∀ (r : Fin 1024) (q : Fin 256), B (ix2 r q) = G (ix2 r (rowAt t q))) :
    (cfg0.win 8).cut (grid0.coords t) B = ((cfg0.win 8).blk t).view.read (Elt Ideal) G := by
  funext (y : S1024x256.Idx)
  obtain ⟨r, q, rfl⟩ : ∃ (r : Fin 1024) (q : Fin 256), y = ix2 r q := ⟨y 0, y 1, eq_ix2 y⟩
  show B (ix2 r q) = G (((cfg0.win 8).blk t).view.emb (ix2 r q : S1024x256.Idx))
  exact (h r q).trans (congrArg G (wemb8 t r q)).symm
theorem cover8 (i : S1024x7680.Idx) : ∃ t : Fin cfg0.N, (cfg0.win 8).flush t = true ∧ i ∈ ((cfg0.win 8).blk t).view.set := by
  refine ⟨ptOf (i 1), flush0_8 _, ?_⟩
  have e : ((cfg0.win 8).blk (ptOf (i 1))).view.emb (ix2 (i 0) ⟨(i 1).val % 256, Nat.mod_lt _ (by decide)⟩ : S1024x256.Idx) = i := (wemb8 (ptOf (i 1)) (i 0) ⟨(i 1).val % 256, Nat.mod_lt _ (by decide)⟩).trans ((congrArg (fun r => ix2 (i 0) r) (rowAt_ptOf (i 1))).trans (eq_ix2 i).symm)
  exact Eq.subst (motive := fun j => j ∈ ((cfg0.win 8).blk (ptOf (i 1))).view.set) e (((cfg0.win 8).blk (ptOf (i 1))).view.emb_mem_set _)
theorem final8_of (G : Vec Ideal S1024x7680 .fp8e5m2) (h : ∀ t, (dats m 0 c).flushed 8 t = ((cfg0.win 8).blk t).view.read (Elt Ideal) G) :
    (dats m 0 c).arrAt 8 cfg0.N = G :=
  (dats m 0 c).arrAt_eq_of_cover 8 G (fun t _ => h t) cover8
theorem flushed8 (t : Fin cfg0.N) : (dats m 0 c).flushed 8 t = (cfg0.win 8).cut (grid0.coords t) (bDQ (iblk m c 1 t)) := by
  show (cfg0.win 8).cut (grid0.coords t) ((dats m 0 c).after 8 t) = _
  rw [after0_8]
theorem pt8 (t : Fin cfg0.N) (r : Fin 1024) (q : Fin 256) : (bDQ (iblk m c 1 t) : Vec Ideal S1024x256 .fp8e5m2) (ix2 r q) = (gDQ (aY m c) : Vec Ideal S1024x7680 .fp8e5m2) (ix2 r (rowAt t q)) := by
  skip
  exact (dq_glob _ _ (rowAt t) (iblk1_apply m c t) r q)
theorem final8 : (dats m 0 c).arrAt 8 cfg0.N = (gDQ (aY m c) : Vec Ideal S1024x7680 .fp8e5m2) :=
  final8_of m c _ fun t => (flushed8 m c t).trans (cut8 t _ _ (pt8 m c t))
/-- A block whose elements are an array's is the array's block. -/
theorem cut9 (t : Fin cfg0.N) (B : Vec Ideal S1x256 .f32) (G : Vec Ideal S1x7680 .f32) (h : ∀ (r : Fin 1) (q : Fin 256), B (ix2 r q) = G (ix2 r (rowAt t q))) :
    (cfg0.win 9).cut (grid0.coords t) B = ((cfg0.win 9).blk t).view.read (Elt Ideal) G := by
  funext (y : S1x256.Idx)
  obtain ⟨r, q, rfl⟩ : ∃ (r : Fin 1) (q : Fin 256), y = ix2 r q := ⟨y 0, y 1, eq_ix2 y⟩
  show B (ix2 r q) = G (((cfg0.win 9).blk t).view.emb (ix2 r q : S1x256.Idx))
  exact (h r q).trans (congrArg G (wemb9 t r q)).symm
theorem cover9 (i : S1x7680.Idx) : ∃ t : Fin cfg0.N, (cfg0.win 9).flush t = true ∧ i ∈ ((cfg0.win 9).blk t).view.set := by
  refine ⟨ptOf (i 1), flush0_9 _, ?_⟩
  have e : ((cfg0.win 9).blk (ptOf (i 1))).view.emb (ix2 (i 0) ⟨(i 1).val % 256, Nat.mod_lt _ (by decide)⟩ : S1x256.Idx) = i := (wemb9 (ptOf (i 1)) (i 0) ⟨(i 1).val % 256, Nat.mod_lt _ (by decide)⟩).trans ((congrArg (fun r => ix2 (i 0) r) (rowAt_ptOf (i 1))).trans (eq_ix2 i).symm)
  exact Eq.subst (motive := fun j => j ∈ ((cfg0.win 9).blk (ptOf (i 1))).view.set) e (((cfg0.win 9).blk (ptOf (i 1))).view.emb_mem_set _)
theorem final9_of (G : Vec Ideal S1x7680 .f32) (h : ∀ t, (dats m 0 c).flushed 9 t = ((cfg0.win 9).blk t).view.read (Elt Ideal) G) :
    (dats m 0 c).arrAt 9 cfg0.N = G :=
  (dats m 0 c).arrAt_eq_of_cover 9 G (fun t _ => h t) cover9
theorem flushed9 (t : Fin cfg0.N) : (dats m 0 c).flushed 9 t = (cfg0.win 9).cut (grid0.coords t) (bSY (iblk m c 1 t)) := by
  show (cfg0.win 9).cut (grid0.coords t) ((dats m 0 c).after 9 t) = _
  rw [after0_9]
theorem pt9 (t : Fin cfg0.N) (r : Fin 1) (q : Fin 256) : (bSY (iblk m c 1 t) : Vec Ideal S1x256 .f32) (ix2 r q) = (gSY (aY m c) : Vec Ideal S1x7680 .f32) (ix2 r (rowAt t q)) := by
  skip
  exact (sy_glob _ _ (rowAt t) (iblk1_apply m c t) q)
theorem final9 : (dats m 0 c).arrAt 9 cfg0.N = (gSY (aY m c) : Vec Ideal S1x7680 .f32) :=
  final9_of m c _ fun t => (flushed9 m c t).trans (cut9 t _ _ (pt9 m c t))
/-- A block whose elements are an array's is the array's block. -/
theorem cut6 (t : Fin cfg0.N) (B : Vec Ideal S1024x2880 .fp8e4m3) (G : Vec Ideal S1024x2880 .fp8e4m3) (h : ∀ (r : Fin 1024) (q : Fin 2880), B (ix2 r q) = G (ix2 r q)) :
    (cfg0.win 6).cut (grid0.coords t) B = ((cfg0.win 6).blk t).view.read (Elt Ideal) G := by
  funext (y : S1024x2880.Idx)
  obtain ⟨r, q, rfl⟩ : ∃ (r : Fin 1024) (q : Fin 2880), y = ix2 r q := ⟨y 0, y 1, eq_ix2 y⟩
  show B (ix2 r q) = G (((cfg0.win 6).blk t).view.emb (ix2 r q : S1024x2880.Idx))
  exact (h r q).trans (congrArg G (wemb6 t r q)).symm
theorem cover6 (i : S1024x2880.Idx) : ∃ t : Fin cfg0.N, (cfg0.win 6).flush t = true ∧ i ∈ ((cfg0.win 6).blk t).view.set := by
  refine ⟨tLast, (flush0_6 _).mpr rfl, ?_⟩
  have e : ((cfg0.win 6).blk tLast).view.emb (ix2 (i 0) (i 1) : S1024x2880.Idx) = i := (wemb6 tLast (i 0) (i 1)).trans ((Eq.refl _).trans (eq_ix2 i).symm)
  exact Eq.subst (motive := fun j => j ∈ ((cfg0.win 6).blk tLast).view.set) e (((cfg0.win 6).blk tLast).view.emb_mem_set _)
theorem final6_of (G : Vec Ideal S1024x2880 .fp8e4m3) (h : ∀ t, (dats m 0 c).flushed 6 t = ((cfg0.win 6).blk t).view.read (Elt Ideal) G) :
    (dats m 0 c).arrAt 6 cfg0.N = G :=
  (dats m 0 c).arrAt_eq_of_cover 6 G (fun t _ => h t) cover6
theorem flushed6 (t : Fin cfg0.N) : (dats m 0 c).flushed 6 t = (cfg0.win 6).cut (grid0.coords t) (bXQ (xblk m c)) := by
  show (cfg0.win 6).cut (grid0.coords t) ((dats m 0 c).after 6 t) = _
  rw [after0_6]
theorem pt6 (t : Fin cfg0.N) (r : Fin 1024) (q : Fin 2880) : (bXQ (xblk m c) : Vec Ideal S1024x2880 .fp8e4m3) (ix2 r q) = (bXQ (aX m c) : Vec Ideal S1024x2880 .fp8e4m3) (ix2 r q) := by
  rw [xblk_eq]

theorem final6 : (dats m 0 c).arrAt 6 cfg0.N = (bXQ (aX m c) : Vec Ideal S1024x2880 .fp8e4m3) :=
  final6_of m c _ fun t => (flushed6 m c t).trans (cut6 t _ _ (pt6 m c t))
/-- A block whose elements are an array's is the array's block. -/
theorem cut7 (t : Fin cfg0.N) (B : Vec Ideal S1x2880 .f32) (G : Vec Ideal S1x2880 .f32) (h : ∀ (r : Fin 1) (q : Fin 2880), B (ix2 r q) = G (ix2 r q)) :
    (cfg0.win 7).cut (grid0.coords t) B = ((cfg0.win 7).blk t).view.read (Elt Ideal) G := by
  funext (y : S1x2880.Idx)
  obtain ⟨r, q, rfl⟩ : ∃ (r : Fin 1) (q : Fin 2880), y = ix2 r q := ⟨y 0, y 1, eq_ix2 y⟩
  show B (ix2 r q) = G (((cfg0.win 7).blk t).view.emb (ix2 r q : S1x2880.Idx))
  exact (h r q).trans (congrArg G (wemb7 t r q)).symm
theorem cover7 (i : S1x2880.Idx) : ∃ t : Fin cfg0.N, (cfg0.win 7).flush t = true ∧ i ∈ ((cfg0.win 7).blk t).view.set := by
  refine ⟨tLast, (flush0_7 _).mpr rfl, ?_⟩
  have e : ((cfg0.win 7).blk tLast).view.emb (ix2 (i 0) (i 1) : S1x2880.Idx) = i := (wemb7 tLast (i 0) (i 1)).trans ((Eq.refl _).trans (eq_ix2 i).symm)
  exact Eq.subst (motive := fun j => j ∈ ((cfg0.win 7).blk tLast).view.set) e (((cfg0.win 7).blk tLast).view.emb_mem_set _)
theorem final7_of (G : Vec Ideal S1x2880 .f32) (h : ∀ t, (dats m 0 c).flushed 7 t = ((cfg0.win 7).blk t).view.read (Elt Ideal) G) :
    (dats m 0 c).arrAt 7 cfg0.N = G :=
  (dats m 0 c).arrAt_eq_of_cover 7 G (fun t _ => h t) cover7
theorem flushed7 (t : Fin cfg0.N) : (dats m 0 c).flushed 7 t = (cfg0.win 7).cut (grid0.coords t) (bSX (xblk m c)) := by
  show (cfg0.win 7).cut (grid0.coords t) ((dats m 0 c).after 7 t) = _
  rw [after0_7]
theorem pt7 (t : Fin cfg0.N) (r : Fin 1) (q : Fin 2880) : (bSX (xblk m c) : Vec Ideal S1x2880 .f32) (ix2 r q) = (bSX (aX m c) : Vec Ideal S1x2880 .f32) (ix2 r q) := by
  rw [xblk_eq]

theorem final7 : (dats m 0 c).arrAt 7 cfg0.N = (bSX (aX m c) : Vec Ideal S1x2880 .f32) :=
  final7_of m c _ fun t => (flushed7 m c t).trans (cut7 t _ _ (pt7 m c t))

/-- The run, its seven results named. -/
theorem run_value : θ_run defs (onTc (τ := τ) (main (F := Ideal))) ⟨m, fun _ => 0, ρ⟩ fun r => ∀ c : Dev nD,
      r.2.mem ((c : Thread nD τ).loc main_v2_0) = gDW (aX m c) (aY m c) (aW m c) (aS m c)
      ∧ r.2.mem ((c : Thread nD τ).loc main_v2_1) = gDS (aX m c) (aY m c) (aW m c) (aS m c)
      ∧ r.2.mem ((c : Thread nD τ).loc main_v2_2) = bXQ (aX m c)
      ∧ r.2.mem ((c : Thread nD τ).loc main_v2_3) = bSX (aX m c)
      ∧ r.2.mem ((c : Thread nD τ).loc main_v2_4) = gDQ (aY m c)
      ∧ r.2.mem ((c : Thread nD τ).loc main_v2_5) = gSY (aY m c)
      ∧ r.2.mem ((c : Thread nD τ).loc main_v2_6) = gQP (aW m c) (aS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), ((h.1 c).1 8).trans (final8 m c), ((h.1 c).1 9).trans (final9 m c), ((h.1 c).1 10).trans (final10 m c), h.2 c⟩)
    (θ_run_and (run_main m ρ) (unchanged m ρ))

/-- The two arrays that the host lays out: the arguments' rows in one run. -/
theorem aX_eq : aX m c = shapeCast S1024x2880 (m ((c : Thread nD τ).loc main_arg0)) shapeCasts_S2x512x2880_S1024x2880 := by
  rfl
theorem aY_eq : aY m c = shapeCast S1024x7680 (m ((c : Thread nD τ).loc main_arg1)) shapeCasts_S2x512x7680_S1024x7680 := by
  rfl

end Cert.KernelIdeal.Hand

end
-- ==== Proof.Scales.lean ====
/- The kernel's power-of-two scales are the reference's, for a column that is zero or of ordinary size. -/
module

public import proofs.«01_k».proof.Proof.Quant
public import Mathlib.Algebra.Order.Archimedean.Basic
public import Mathlib.Data.BitVec

@[expose] public section

noncomputable section

namespace Cert.Quant

open Idealize.ShloMosaic

/-- The float with exponent field `k` and nothing else set. -/
def pw (k : ℕ) : EReal := Ideal.ofBits .f32 (IntOp.shli ArithUnit.vector (BitVec.ofNat 32 k) 23#32)

theorem fields (k : ℕ) (hk : k < 256) : (IntOp.shli ArithUnit.vector (BitVec.ofNat 32 k) 23#32).extractLsb' 31 1 = 0#1
    ∧ ((IntOp.shli ArithUnit.vector (BitVec.ofNat 32 k) 23#32).extractLsb' 23 8).toNat = k
    ∧ ((IntOp.shli ArithUnit.vector (BitVec.ofNat 32 k) 23#32).extractLsb' 0 23).toNat = 0 := by
  have h : ∀ k : Fin 256, (IntOp.shli ArithUnit.vector (BitVec.ofNat 32 k.val) 23#32).extractLsb' 31 1 = 0#1
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by decide +kernel
  exact h ⟨k, hk⟩

theorem pw_zero : pw 0 = 0 := by
  obtain ⟨h1, h2, h3⟩ := fields 0 (by omega)
  unfold pw Ideal.ofBits Ideal.ieee
  simp only [h1, h2, h3]
  simp
theorem pw_top : pw 255 = ⊤ := by
  obtain ⟨h1, h2, h3⟩ := fields 255 (by omega)
  unfold pw Ideal.ofBits Ideal.ieee
  simp only [h1, h2, h3]
  simp
theorem pw_eq (k : ℕ) (h1 : 1 ≤ k) (h2 : k ≤ 254) : pw k = (((2 : ℝ) ^ ((k : ℤ) - 127) : ℝ) : EReal) := by
  obtain ⟨e1, e2, e3⟩ := fields k (by omega)
  unfold pw Ideal.ofBits Ideal.ieee
  simp only [e1, e2, e3]
  rw [if_neg (by norm_num; omega), if_neg (by omega)]
  norm_num
  have : (2 : ℝ) ^ ((k : ℤ) - 127) = 8388608 * (2 : ℝ) ^ ((k : ℤ) - 127 - 23) := by
    rw [show (k : ℤ) - 127 = 23 + ((k : ℤ) - 127 - 23) by ring, zpow_add₀ (by norm_num)]
    norm_num
  first
  | exact_mod_cast this.symm
  | (rw [this]; norm_cast)

/-- The count of the powers at most `t`, when they are those with fields below `n`. -/
theorem fieldK_eq (t : EReal) (n : ℕ) (hn : n ≤ 256) (h : ∀ k < 256, pw k ≤ t ↔ k < n) : fieldK t = BitVec.ofNat 32 n - 1#32 := by
  unfold fieldK
  have e : (fun k : Fin 256 => BitVec.setWidth 32 (BitVec.ofBool (decide (Ideal.ofBits FTy.f32 (IntOp.shli ArithUnit.vector (BitVec.ofNat 32 k.val) 23#32) ≤ t))))
      = fun k : Fin 256 => if k.val < n then 1#32 else 0#32 := by
    funext k
    have := h k.val k.isLt
    unfold pw at this
    by_cases hk : k.val < n
    · simp [hk, this.2 hk]
    · have h' := mt this.1 hk
      simp [hk, h']
  rw [e]
  have c : ∀ n : Fin 257, (Finset.univ.fold IntOp.addi 0#32 fun k : Fin 256 => if k.val < n.val then 1#32 else 0#32) = BitVec.ofNat 32 n.val := by
    intro n
    have : (Finset.univ.fold IntOp.addi 0#32 fun k : Fin 256 => if k.val < n.val then 1#32 else 0#32)
        = ∑ k : Fin 256, (if k.val < n.val then (1 : BitVec 32) else 0) := by
      show _ = Multiset.sum _
      rw [Multiset.sum_eq_foldr]
      rfl
    rw [this, Finset.sum_boole]
    have hc : (Finset.univ.filter fun k : Fin 256 => k.val < n.val).card = n.val := by
      rw [Fin.card_filter_val_lt]; omega
    rw [hc]
    exact BitVec.natCast_eq_ofNat ..
  rw [c ⟨n, by omega⟩]
  rfl

theorem scK_eq (t : EReal) (n : ℕ) (h2 : 2 ≤ n) (h250 : n ≤ 250) (h : ∀ k < 256, pw k ≤ t ↔ k < n) :
    scK t = (((2 : ℝ) ^ ((n : ℤ) - 127) : ℝ) : EReal) ∧ invK t = (((2 : ℝ) ^ (127 - (n : ℤ)) : ℝ) : EReal) := by
  have f := fieldK_eq t n (by omega) h
  have key : ∀ n : Fin 251, 2 ≤ n.val → IntOp.addi (Scalar.select (IntOp.cmpi CmpIPredicate.eq (BitVec.ofNat 32 n.val - 1#32) 0#32) 0#32 (IntOp.subi (BitVec.ofNat 32 n.val - 1#32) 126#32)) 127#32 = BitVec.ofNat 32 n.val
      ∧ IntOp.subi 127#32 (Scalar.select (IntOp.cmpi CmpIPredicate.eq (BitVec.ofNat 32 n.val - 1#32) 0#32) 0#32 (IntOp.subi (BitVec.ofNat 32 n.val - 1#32) 126#32)) = BitVec.ofNat 32 (254 - n.val) := by decide +kernel
  obtain ⟨k1, k2⟩ := key ⟨n, by omega⟩ h2
  unfold scK invK expK
  rw [f]
  simp only at k1 k2
  rw [k1, k2]
  refine ⟨pw_eq n (by omega) (by omega), (pw_eq (254 - n) (by omega) (by omega)).trans ?_⟩
  congr 2
  push_cast [show n ≤ 254 by omega]
  ring

theorem scK_zero : scK 0 = 1 ∧ invK 0 = 1 := by
  have f := fieldK_eq 0 1 (by omega) (fun k hk => by
    rcases Nat.eq_zero_or_pos k with rfl | hp
    · simp [pw_zero]
    · have : ¬ pw k ≤ 0 := by
        rw [not_le]
        by_cases h : k = 255
        · subst h; rw [pw_top]; exact EReal.coe_lt_top 0
        · rw [pw_eq k hp (by omega)]; exact_mod_cast zpow_pos (by norm_num : (0 : ℝ) < 2) _
      simp only [this, false_iff]; omega)
  have o := pw_eq 127 (by omega) (by omega)
  unfold scK invK expK
  rw [f]
  refine ⟨Eq.trans ?_ (o.trans (by norm_num)), Eq.trans ?_ (o.trans (by norm_num))⟩ <;> rfl

/-- Every ordinary positive real has such an `n`: its binary exponent. -/
theorem exists_field (r : ℝ) (h1 : (2 : ℝ) ^ (-126 : ℤ) ≤ r) (h2 : r < (2 : ℝ) ^ (120 : ℤ)) :
    ∃ n : ℕ, 2 ≤ n ∧ n ≤ 250 ∧ (∀ k < 256, pw k ≤ (r : EReal) ↔ k < n) ∧ ∀ z : ℤ, (2 : ℝ) ^ z ≤ r ↔ z ≤ (n : ℤ) - 128 := by
  have hp : 0 < r := lt_of_lt_of_le (by positivity) h1
  obtain ⟨l, hl1, hl2⟩ := exists_mem_Ico_zpow hp (by norm_num : (1 : ℝ) < 2)
  have key (z : ℤ) : (2 : ℝ) ^ z ≤ r ↔ z ≤ l := by
    constructor
    · intro h
      have := (zpow_lt_zpow_iff_right₀ (by norm_num : (1 : ℝ) < 2)).1 (lt_of_le_of_lt h hl2)
      omega
    · intro h
      exact le_trans ((zpow_le_zpow_iff_right₀ (by norm_num : (1 : ℝ) < 2)).2 h) hl1
  have l1 := (key _).1 h1
  have l2 : l < 120 := by
    by_contra hc
    exact absurd ((key 120).2 (by omega)) (not_le.2 h2)
  have en : (((l + 128).toNat : ℕ) : ℤ) = l + 128 := Int.toNat_of_nonneg (by omega)
  refine ⟨(l + 128).toNat, by omega, by omega, fun k hk => ?_, fun z => by rw [key z, en]; constructor <;> intro _ <;> omega⟩
  rcases Nat.eq_zero_or_pos k with rfl | hk0
  · rw [pw_zero]
    exact ⟨fun _ => by omega, fun _ => by exact_mod_cast hp.le⟩
  · by_cases h255 : k = 255
    · subst h255
      rw [pw_top]
      refine ⟨fun h => absurd (top_le_iff.1 h) (EReal.coe_ne_top r), fun h => by omega⟩
    · rw [pw_eq k hk0 (by omega), EReal.coe_le_coe_iff, key]
      omega

theorem exp2_int (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

theorem c126 : Ideal.ofBits FTy.f32 0x42FC0000#32 = ((126 : ℝ) : EReal) := by
  simp [Ideal.ofBits, Ideal.ieee, -EReal.coe_mul]; norm_num
theorem c130 : Ideal.ofBits FTy.f32 0x43020000#32 = ((130 : ℝ) : EReal) := by
  simp [Ideal.ofBits, Ideal.ieee, -EReal.coe_mul]; norm_num
theorem cinf : Ideal.ofBits FTy.f32 0x7F800000#32 = ⊤ := by
  simp [Ideal.ofBits, Ideal.ieee]

theorem expR_eq (a : EReal) (ha : a ≠ 0) (r : ℝ) (n : ℕ) (h2 : 2 ≤ n) (h250 : n ≤ 250) (h : ∀ z : ℤ, (2 : ℝ) ^ z ≤ r ↔ z ≤ (n : ℤ) - 128) :
    expR a (r : EReal) = ((((n : ℤ) - 127 : ℤ) : ℝ) : EReal) := by
  unfold expR
  rw [if_neg ha, c126, c130, cinf]
  have e : (fun k : Fin 256 => if (r : EReal) < Ideal.exp2 ((((BitVec.ofNat 32 k.val).toInt : ℝ) : EReal) - ((126 : ℝ) : EReal))
      then (((BitVec.ofNat 32 k.val).toInt : ℝ) : EReal) - ((126 : ℝ) : EReal) else ((130 : ℝ) : EReal))
      = fun k : Fin 256 => if n ≤ k.val + 1 then ((((k.val : ℤ) - 126 : ℤ) : ℝ) : EReal) else ((130 : ℝ) : EReal) := by
    funext k
    have hk : (BitVec.ofNat 32 k.val).toInt = (k.val : ℤ) := by
      have : ∀ k : Fin 256, (BitVec.ofNat 32 k.val).toInt = (k.val : ℤ) := by decide +kernel
      exact this k
    have h3 : (((BitVec.ofNat 32 k.val).toInt : ℝ) : EReal) - ((126 : ℝ) : EReal) = ((((k.val : ℤ) - 126 : ℤ) : ℝ) : EReal) := by
      rw [hk, ← EReal.coe_sub]; push_cast; rfl
    rw [h3, exp2_int]
    refine if_congr ?_ rfl rfl
    rw [EReal.coe_lt_coe_iff, ← not_le, h]
    omega
  rw [e]
  apply le_antisymm
  · rw [Finset.fold_min_le]
    refine .inr ⟨⟨n - 1, by omega⟩, Finset.mem_univ _, ?_⟩
    rw [if_pos (by simp; omega)]
    have : ((n - 1 : ℕ) : ℤ) - 126 = (n : ℤ) - 127 := by omega
    simp only [this]; exact le_rfl
  · rw [Finset.le_fold_min]
    refine ⟨le_top, fun k _ => ?_⟩
    split
    · next hk =>
      rw [EReal.coe_le_coe_iff]
      exact_mod_cast (by omega : (n : ℤ) - 127 ≤ (k.val : ℤ) - 126)
    · rw [EReal.coe_le_coe_iff]
      exact_mod_cast (by omega : (n : ℤ) - 127 ≤ 130)

/-- The two scales, and their reciprocals, are equal. -/
theorem scales_eq (a : EReal) (c : ℝ) (hc : 0 < c) (hc' : c ≤ (2 : ℝ) ^ (-8 : ℤ))
    (h : a = 0 ∨ (Ideal.ofBits FTy.f32 0x00800000#32 ≤ a * (c : EReal) ∧ a ≤ Ideal.ofBits FTy.f32 0x7F7F0000#32)) :
    scK (a * (c : EReal)) = Ideal.exp2 (expR a (a * (c : EReal))) ∧ invK (a * (c : EReal)) = Ideal.exp2 (0 - expR a (a * (c : EReal))) := by
  rcases h with rfl | ⟨h1, h2⟩
  · have e1 : Ideal.exp2 0 = 1 := by
      have := exp2_int 0
      simpa using this
    rw [zero_mul]
    simp only [expR, if_true, sub_zero, e1]
    exact scK_zero
  · have m1 : Ideal.ofBits FTy.f32 0x00800000#32 = (((2 : ℝ) ^ (-126 : ℤ) : ℝ) : EReal) := pw_eq 1 (by omega) (by omega)
    have m2 : Ideal.ofBits FTy.f32 0x7F7F0000#32 < (((2 : ℝ) ^ (128 : ℤ) : ℝ) : EReal) := by
      simp [Ideal.ofBits, Ideal.ieee, -EReal.coe_mul]; norm_num
      first
      | done
      | exact_mod_cast (by norm_num)
    rw [m1] at h1
    have h2' := lt_of_le_of_lt h2 m2
    induction a using EReal.rec with
    | bot =>
      rw [EReal.bot_mul_coe_of_pos hc] at h1
      exact absurd (le_bot_iff.1 h1) (EReal.coe_ne_bot _)
    | top => exact absurd h2' (not_lt.2 le_top)
    | coe a =>
      rw [← EReal.coe_mul] at h1 ⊢
      rw [EReal.coe_le_coe_iff] at h1
      rw [EReal.coe_lt_coe_iff] at h2'
      have ha : 0 < a := by
        by_contra hn
        have : a * c ≤ 0 := mul_nonpos_of_nonpos_of_nonneg (not_lt.1 hn) hc.le
        have hp : (0 : ℝ) < (2 : ℝ) ^ (-126 : ℤ) := by positivity
        linarith
      have hu : a * c < (2 : ℝ) ^ (120 : ℤ) := by
        calc a * c ≤ a * (2 : ℝ) ^ (-8 : ℤ) := mul_le_mul_of_nonneg_left hc' ha.le
          _ < (2 : ℝ) ^ (128 : ℤ) * (2 : ℝ) ^ (-8 : ℤ) := mul_lt_mul_of_pos_right h2' (by positivity)
          _ = _ := by rw [← zpow_add₀ (by norm_num)]; norm_num
      obtain ⟨n, n2, n250, hn, hz⟩ := exists_field (a * c) h1 hu
      obtain ⟨s1, s2⟩ := scK_eq _ n n2 n250 hn
      have hr := expR_eq (a : EReal) (by exact_mod_cast ha.ne') (a * c) n n2 n250 hz
      rw [s1, s2, hr]
      refine ⟨(exp2_int _).symm, ?_⟩
      have : (0 : EReal) - ((((n : ℤ) - 127 : ℤ) : ℝ) : EReal) = (((127 - (n : ℤ) : ℤ) : ℝ) : EReal) := by
        rw [zero_sub, ← EReal.coe_neg]; congr 1; push_cast; ring
      rw [this, exp2_int]

end Cert.Quant
-- ==== Proof.Scalars.lean ====
/- The code of one weight, two ways: the kernel clips before it rounds, the reference rounds before it clips. At every
   extended real they agree, in the code, in the scale gradient's factor and in the mask. -/
module

public import proofs.«01_k».proof.Proof.Spec
public import proofs.«01_k».proof.Proof.Scales

@[expose] public section

noncomputable section

namespace Cert.KernelIdeal.Hand

open Cert.Quant
open Idealize.ShloMosaic Idealize.ShloMosaic.TcCoe

theorem c7 : (Scalar.ofBits .f32 0x40E00000#32 : Ideal .f32) = (((7 : ℝ) : EReal)) := by
  show Ideal.ofBits .f32 0x40E00000#32 = _
  simp [Ideal.ofBits, Ideal.ieee, -EReal.coe_mul]; norm_num
theorem c8 : (Scalar.ofBits .f32 0xC1000000#32 : Ideal .f32) = (((-8 : ℝ) : EReal)) := by
  show Ideal.ofBits .f32 0xC1000000#32 = _
  simp [Ideal.ofBits, Ideal.ieee, -EReal.coe_mul]; norm_num
theorem c0 : (Scalar.ofBits .f32 0x00000000#32 : Ideal .f32) = (0 : EReal) := by
  show Ideal.ofBits .f32 0x00000000#32 = _
  simp [Ideal.ofBits, Ideal.ieee]
theorem c1 : (Scalar.ofBits .f32 0x3F800000#32 : Ideal .f32) = (1 : EReal) := by
  show Ideal.ofBits .f32 0x3F800000#32 = _
  simp [Ideal.ofBits, Ideal.ieee, -EReal.coe_mul]; norm_num

/-! ## The reference's scalars -/

/-- The rounded then clipped code, the factor of the scale gradient, and the masked gradient. -/
def refQ (v : Ideal .f32) : BitVec 8 :=
  Scalar.fptosi 8 (Scalar.minimumf (Scalar.ofBits .f32 0x40E00000#32) (Scalar.maximumf (Scalar.ofBits .f32 0xC1000000#32) (Scalar.roundeven v)))
def refF (v : Ideal .f32) : Ideal .f32 :=
  Scalar.select (Scalar.cmpf .olt v (Scalar.ofBits .f32 0xC1000000#32)) (Scalar.ofBits .f32 0xC1000000#32)
    (Scalar.select (Scalar.cmpf .ogt v (Scalar.ofBits .f32 0x40E00000#32)) (Scalar.ofBits .f32 0x40E00000#32)
      (Scalar.subf (Scalar.sitofp .f32 (refQ v)) v))
def refM (v d : Ideal .f32) : Ideal .f32 :=
  Scalar.select (IntOp.andi (Scalar.cmpf .oge v (Scalar.ofBits .f32 0xC1000000#32)) (Scalar.cmpf .ole v (Scalar.ofBits .f32 0x40E00000#32)))
    d (Scalar.ofBits .f32 0x00000000#32)

/-! ## Rounding to nearest, ties to even -/

theorem rhe_ge (r : ℝ) (n : ℤ) (h : (n : ℝ) ≤ r) : n ≤ Ideal.roundHalfEven r := by
  have hf : n ≤ ⌊r⌋ := Int.le_floor.2 h
  unfold Ideal.roundHalfEven
  dsimp only
  split_ifs <;> omega
theorem rhe_le (r : ℝ) (n : ℤ) (h : r ≤ (n : ℝ)) : Ideal.roundHalfEven r ≤ n := by
  have hf : ⌊r⌋ ≤ n := by
    have := (Int.floor_le r).trans h
    exact_mod_cast this
  rcases lt_or_eq_of_le hf with hl | he
  · unfold Ideal.roundHalfEven
    dsimp only
    split_ifs <;> omega
  · have hr : r - (⌊r⌋ : ℝ) < 1 / 2 := by rw [he]; linarith
    unfold Ideal.roundHalfEven
    dsimp only
    rw [if_pos hr]; omega

theorem roundeven_coe (r : ℝ) : (Scalar.roundeven (F := Ideal) (φ := .f32) ((r : ℝ) : EReal) : EReal) = (((Ideal.roundHalfEven r : ℤ) : ℝ) : EReal) := rfl
theorem roundeven_ge (v : EReal) (h : (((7 : ℝ) : ℝ) : EReal) < v) : ((7 : ℝ) : EReal) ≤ (Scalar.roundeven (F := Ideal) (φ := .f32) v : EReal) := by
  induction v with
  | bot => exact absurd h (by simp)
  | top => exact le_top
  | coe r =>
    rw [roundeven_coe]
    have h' : (7 : ℝ) < r := by exact_mod_cast h
    have := rhe_ge r 7 (by push_cast; exact h'.le)
    have h2 : (7 : ℝ) ≤ ((Ideal.roundHalfEven r : ℤ) : ℝ) := by exact_mod_cast this
    exact_mod_cast h2
theorem roundeven_le (v : EReal) (h : v < (((-8 : ℝ) : ℝ) : EReal)) : (Scalar.roundeven (F := Ideal) (φ := .f32) v : EReal) ≤ ((-8 : ℝ) : EReal) := by
  induction v with
  | bot => exact bot_le
  | top => exact absurd h (by simp)
  | coe r =>
    rw [roundeven_coe]
    have h' : r < (-8 : ℝ) := by exact_mod_cast h
    have := rhe_le r (-8) (by push_cast; exact h'.le)
    have h2 : ((Ideal.roundHalfEven r : ℤ) : ℝ) ≤ (-8 : ℝ) := by exact_mod_cast this
    exact_mod_cast h2
theorem roundeven_7 : (Scalar.roundeven (F := Ideal) (φ := .f32) ((7 : ℝ) : EReal) : EReal) = ((7 : ℝ) : EReal) := by
  rw [roundeven_coe]
  have h : Ideal.roundHalfEven 7 = 7 := le_antisymm (rhe_le 7 7 (by norm_num)) (rhe_ge 7 7 (by norm_num))
  rw [h]; norm_num
theorem roundeven_8 : (Scalar.roundeven (F := Ideal) (φ := .f32) ((-8 : ℝ) : EReal) : EReal) = ((-8 : ℝ) : EReal) := by
  rw [roundeven_coe]
  have h : Ideal.roundHalfEven (-8) = -8 := le_antisymm (rhe_le (-8) (-8) (by norm_num)) (rhe_ge (-8) (-8) (by norm_num))
  rw [h]; norm_num

theorem lt87 : (((-8 : ℝ)) : EReal) < ((7 : ℝ) : EReal) := by exact_mod_cast (by norm_num : (-8 : ℝ) < 7)

theorem min_def' (a b : Ideal .f32) : Scalar.minimumf a b = (min (a : EReal) b) := rfl
theorem max_def' (a b : Ideal .f32) : Scalar.maximumf a b = (max (a : EReal) b) := rfl
theorem clipS_def (v : EReal) : clipS v = min ((7 : ℝ) : EReal) (max ((-8 : ℝ) : EReal) v) := by
  unfold clipS; rw [c7, c8]; rfl
theorem clip_lo (v : EReal) (h : v < ((-8 : ℝ) : EReal)) : clipS v = ((-8 : ℝ) : EReal) := by
  rw [clipS_def, max_eq_left h.le, min_eq_right lt87.le]
theorem clip_hi (v : EReal) (h : ((7 : ℝ) : EReal) < v) : clipS v = ((7 : ℝ) : EReal) := by
  rw [clipS_def, max_eq_right (lt87.trans h).le, min_eq_left h.le]
theorem clip_mid (v : EReal) (h : ((-8 : ℝ) : EReal) ≤ v) (h' : v ≤ ((7 : ℝ) : EReal)) : clipS v = v := by
  rw [clipS_def, max_eq_right h, min_eq_right h']
theorem cmp_true (p : CmpFPredicate) (x y : EReal) (h : Ideal.cmp p x y = BitVec.ofBool true) : (Scalar.cmpf (F := Ideal) (φ := .f32) p x y) = 1#1 := h
theorem sel1 {α : Type} (a b : α) : Scalar.select 1#1 a b = a := rfl
theorem sel0 {α : Type} (a b : α) : Scalar.select 0#1 a b = b := rfl

theorem olt_of {x y : EReal} (h : x < y) : (Scalar.cmpf (F := Ideal) (φ := .f32) .olt x y) = 1#1 := by
  show BitVec.ofBool (decide (x < y)) = 1#1; rw [decide_eq_true h]; rfl
theorem olt_not {x y : EReal} (h : ¬ x < y) : (Scalar.cmpf (F := Ideal) (φ := .f32) .olt x y) = 0#1 := by
  show BitVec.ofBool (decide (x < y)) = 0#1; rw [decide_eq_false h]; rfl
theorem ogt_of {x y : EReal} (h : y < x) : (Scalar.cmpf (F := Ideal) (φ := .f32) .ogt x y) = 1#1 := by
  show BitVec.ofBool (decide (y < x)) = 1#1; rw [decide_eq_true h]; rfl
theorem ogt_not {x y : EReal} (h : ¬ y < x) : (Scalar.cmpf (F := Ideal) (φ := .f32) .ogt x y) = 0#1 := by
  show BitVec.ofBool (decide (y < x)) = 0#1; rw [decide_eq_false h]; rfl
theorem oge_of {x y : EReal} (h : y ≤ x) : (Scalar.cmpf (F := Ideal) (φ := .f32) .oge x y) = 1#1 := by
  show BitVec.ofBool (decide (y ≤ x)) = 1#1; rw [decide_eq_true h]; rfl
theorem oge_not {x y : EReal} (h : ¬ y ≤ x) : (Scalar.cmpf (F := Ideal) (φ := .f32) .oge x y) = 0#1 := by
  show BitVec.ofBool (decide (y ≤ x)) = 0#1; rw [decide_eq_false h]; rfl
theorem ole_of {x y : EReal} (h : x ≤ y) : (Scalar.cmpf (F := Ideal) (φ := .f32) .ole x y) = 1#1 := by
  show BitVec.ofBool (decide (x ≤ y)) = 1#1; rw [decide_eq_true h]; rfl
theorem ole_not {x y : EReal} (h : ¬ x ≤ y) : (Scalar.cmpf (F := Ideal) (φ := .f32) .ole x y) = 0#1 := by
  show BitVec.ofBool (decide (x ≤ y)) = 0#1; rw [decide_eq_false h]; rfl
theorem oeq_of {x y : EReal} (h : x = y) : (Scalar.cmpf (F := Ideal) (φ := .f32) .oeq x y) = 1#1 := by
  show BitVec.ofBool (decide (x = y)) = 1#1; rw [decide_eq_true h]; rfl
theorem oeq_not {x y : EReal} (h : ¬ x = y) : (Scalar.cmpf (F := Ideal) (φ := .f32) .oeq x y) = 0#1 := by
  show BitVec.ofBool (decide (x = y)) = 0#1; rw [decide_eq_false h]; rfl

/-- A value is below the range, above it, or a real in it. -/
theorem range_cases (v : EReal) : v < ((-8 : ℝ) : EReal) ∨ ((7 : ℝ) : EReal) < v ∨ (((-8 : ℝ) : EReal) ≤ v ∧ v ≤ ((7 : ℝ) : EReal) ∧ ∃ r : ℝ, v = (r : EReal)) := by
  by_cases h : v < ((-8 : ℝ) : EReal)
  · exact .inl h
  by_cases h' : ((7 : ℝ) : EReal) < v
  · exact .inr (.inl h')
  refine .inr (.inr ⟨not_lt.1 h, not_lt.1 h', ?_⟩)
  induction v with
  | bot => exact absurd (EReal.bot_lt_coe (-8)) h
  | top => exact absurd (EReal.coe_lt_top 7) h'
  | coe r => exact ⟨r, rfl⟩

theorem inS_lo {v : EReal} (h : v < ((-8 : ℝ) : EReal)) : inS v = 0#1 := by unfold inS; rw [clip_lo v h]; exact oeq_not h.ne'
theorem inS_hi {v : EReal} (h : ((7 : ℝ) : EReal) < v) : inS v = 0#1 := by unfold inS; rw [clip_hi v h]; exact oeq_not h.ne
theorem inS_mid {v : EReal} (h : ((-8 : ℝ) : EReal) ≤ v) (h' : v ≤ ((7 : ℝ) : EReal)) : inS v = 1#1 := by unfold inS; rw [clip_mid v h h']; exact oeq_of rfl

/-- The masks agree. -/
theorem refM_eq (v d : EReal) : refM v d = gradS v d := by
  unfold refM gradS
  rw [c7, c8]
  rcases range_cases v with h | h | ⟨h, h', -⟩
  · rw [inS_lo h, oge_not (not_le.2 h), ole_of (h.trans lt87).le]; rfl
  · rw [inS_hi h, oge_of (lt87.trans h).le, ole_not (not_le.2 h)]; rfl
  · rw [inS_mid h h', oge_of h, ole_of h']; rfl

/-- The codes agree. -/
theorem refQ_eq (v : EReal) : refQ v = byteS v := by
  unfold refQ byteS codeS
  rw [c7, c8]
  congr 1
  rcases range_cases v with h | h | ⟨h, h', r, rfl⟩
  · rw [clip_lo v h, roundeven_8, max_def', max_eq_left (roundeven_le v h), min_def', min_eq_right lt87.le]
  · rw [clip_hi v h, roundeven_7, max_def', min_def', min_eq_left ((roundeven_ge v h).trans (le_max_right _ _))]
  · rw [clip_mid _ h h', roundeven_coe, max_def', min_def']
    have h1 : (-8 : ℝ) ≤ r := by exact_mod_cast h
    have h2 : r ≤ (7 : ℝ) := by exact_mod_cast h'
    have g1 := rhe_ge r (-8) (by push_cast; exact h1)
    have g2 := rhe_le r 7 (by push_cast; exact h2)
    have e1 : (-8 : ℝ) ≤ ((Ideal.roundHalfEven r : ℤ) : ℝ) := by exact_mod_cast g1
    have e2 : ((Ideal.roundHalfEven r : ℤ) : ℝ) ≤ (7 : ℝ) := by exact_mod_cast g2
    rw [max_eq_right (by exact_mod_cast e1), min_eq_right (by exact_mod_cast e2)]

/-- A small integer goes through a byte and back. -/
theorem byte_round (z : ℤ) (h : -8 ≤ z) (h' : z ≤ 7) : (Scalar.sitofp (F := Ideal) .f32 (Scalar.fptosi (F := Ideal) (φ := .f32) 8 ((z : ℝ) : EReal)) : EReal) = ((z : ℝ) : EReal) := by
  have e : Scalar.fptosi (F := Ideal) (φ := .f32) 8 ((z : ℝ) : EReal) = BitVec.ofInt 8 z := by
    show Ideal.fptosi 8 _ = _
    unfold Ideal.fptosi
    congr 1
    rw [Ideal.toIntClamped_coe]
    rw [Int.floor_intCast, Int.ceil_intCast, ite_self]
    norm_num
    omega
  rw [e]
  show (((BitVec.ofInt 8 z).toInt : ℝ) : EReal) = _
  have : (BitVec.ofInt 8 z).toInt = z := by
    interval_cases z <;> rfl
  rw [this]

/-- The scale gradient's factors agree. -/
theorem refF_eq (v : EReal) : refF v = facS v := by
  unfold refF
  rw [refQ_eq]
  unfold facS byteS
  rw [c7, c8, c0]
  rcases range_cases v with h | h | ⟨h, h', r, rfl⟩
  · rw [olt_of h, sel1, inS_lo h, sel0]
    unfold codeS
    rw [clip_lo v h, roundeven_8]
    show _ = ((-8 : ℝ) : EReal) - 0
    rw [sub_zero]
  · rw [olt_not (lt87.trans h).not_gt, sel0, ogt_of h, sel1, inS_hi h, sel0]
    unfold codeS
    rw [clip_hi v h, roundeven_7]
    show _ = ((7 : ℝ) : EReal) - 0
    rw [sub_zero]
  · rw [olt_not h.not_gt, sel0, ogt_not h'.not_gt, sel0, inS_mid h h', sel1]
    unfold codeS
    rw [clip_mid _ h h', roundeven_coe]
    have h1 : (-8 : ℝ) ≤ r := by exact_mod_cast h
    have h2 : r ≤ (7 : ℝ) := by exact_mod_cast h'
    rw [byte_round _ (rhe_ge r (-8) (by push_cast; exact h1)) (rhe_le r 7 (by push_cast; exact h2))]

/-- A product with a reciprocal is the quotient, off zero. -/
theorem mul_recip (w s : EReal) (h : s ≠ 0) : w * (Scalar.divf (F := Ideal) (φ := .f32) (Scalar.ofBits .f32 0x3F800000#32) s : EReal) = (Scalar.divf (F := Ideal) (φ := .f32) w s) := by
  rw [c1]
  show w * Ideal.div 1 s = Ideal.div w s
  unfold Ideal.div
  rw [if_neg h, if_neg h, one_mul]

/-- Four lanes of eight are thirty-two. -/
theorem sum_lanes (f : Fin 32 → EReal) : (∑ j : Fin 8, ∑ k : Fin 4, f ⟨8 * k.val + j.val, by omega⟩) = ∑ i : Fin 32, f i := by
  rw [Finset.sum_comm, ← Fintype.sum_prod_type' (f := fun (k : Fin 4) (j : Fin 8) => f ⟨8 * k.val + j.val, by omega⟩)]
  rw [← Equiv.sum_comp (finProdFinEquiv (m := 4) (n := 8)) f]
  refine Finset.sum_congr rfl fun p _ => congrArg f (Fin.ext ?_)
  show 8 * p.1.val + p.2.val = p.2.val + 8 * p.1.val
  omega

/-! ## The constants of the quantisers -/

theorem bot16 : Ideal.ofBits .bf16 0xFF80#16 = ⊥ := by simp [Ideal.ofBits, Ideal.ieee]
theorem bot32 : Ideal.ofBits .f32 0xFF800000#32 = ⊥ := by simp [Ideal.ofBits, Ideal.ieee]
theorem lo8 : Ideal.ofBits .bf16 0xC3E0#16 = Ideal.ofBits .f32 0xC3E00000#32 := by simp [Ideal.ofBits, Ideal.ieee, -EReal.coe_mul]; norm_num
theorem hi8 : Ideal.ofBits .bf16 0x43E0#16 = Ideal.ofBits .f32 0x43E00000#32 := by simp [Ideal.ofBits, Ideal.ieee, -EReal.coe_mul]; norm_num
theorem lo5 : Ideal.ofBits .bf16 0xC760#16 = Ideal.ofBits .f32 0xC7600000#32 := by simp [Ideal.ofBits, Ideal.ieee, -EReal.coe_mul]; norm_num
theorem hi5 : Ideal.ofBits .bf16 0x4760#16 = Ideal.ofBits .f32 0x47600000#32 := by simp [Ideal.ofBits, Ideal.ieee, -EReal.coe_mul]; norm_num
theorem mx_real : ∃ c : ℝ, Ideal.ofBits .f32 mx = (c : EReal) ∧ 0 < c ∧ c ≤ (2 : ℝ) ^ (-8 : ℤ) := by
  refine ⟨_, by simp [mx, Ideal.ofBits, Ideal.ieee, -EReal.coe_mul]; rfl, by norm_num, by norm_num⟩
theorem my_real : ∃ c : ℝ, Ideal.ofBits .f32 my = (c : EReal) ∧ 0 < c ∧ c ≤ (2 : ℝ) ^ (-8 : ℤ) := by
  refine ⟨_, by simp [my, Ideal.ofBits, Ideal.ieee, -EReal.coe_mul]; rfl, by norm_num, by norm_num⟩

/-- A column is tame: its greatest magnitude is zero, or is finite and gives a normal scale. -/
def Tame (cst : BitVec 32) (a : EReal) : Prop :=
  a = 0 ∨ (Ideal.ofBits .f32 0x00800000#32 ≤ a * Ideal.ofBits .f32 cst ∧ a ≤ Ideal.ofBits .f32 0x7F7F0000#32)

/-- The kernel's scale and reciprocal scale of a tame column are the reference's. -/
theorem tame_x (a : EReal) (h : Tame mx a) : scK (a * Ideal.ofBits .f32 mx) = Ideal.exp2 (expR a (a * Ideal.ofBits .f32 mx))
    ∧ invK (a * Ideal.ofBits .f32 mx) = Ideal.exp2 (0 - expR a (a * Ideal.ofBits .f32 mx)) := by
  obtain ⟨c, e, h0, h1⟩ := mx_real
  unfold Tame at h
  rw [e] at h ⊢
  exact scales_eq a c h0 h1 h
theorem tame_y (a : EReal) (h : Tame my a) : scK (a * Ideal.ofBits .f32 my) = Ideal.exp2 (expR a (a * Ideal.ofBits .f32 my))
    ∧ invK (a * Ideal.ofBits .f32 my) = Ideal.exp2 (0 - expR a (a * Ideal.ofBits .f32 my)) := by
  obtain ⟨c, e, h0, h1⟩ := my_real
  unfold Tame at h
  rw [e] at h ⊢
  exact scales_eq a c h0 h1 h

end Cert.KernelIdeal.Hand

end
-- ==== Proof.RefRead.lean ====
/- The reference's whole-array payloads at an index. -/
module

public import proofs.«01_k».proof.Proof.Scalars

@[expose] public section

set_option maxRecDepth 16384

noncomputable section

namespace Cert.ReferenceIdeal.Hand

open Cert.ReferenceIdeal.Gen Cert.Quant Cert.KernelIdeal.Hand
open Idealize.ShloMosaic Idealize.ShloMosaic.TcCoe Idealize.ShloMosaic.Tactic

/-! ## Where the reshapes and broadcasts read -/

/-- The column of lane `j` of group `g`, and back. -/
abbrev col (g : Fin 90) (j : Fin 32) : Fin 2880 := ⟨32 * g.val + j.val, by omega⟩

theorem rs_group (h : S7680x2880.ShapeCasts S7680x90x32) (r : Fin 7680) (g : Fin 90) (j : Fin 32) :
    Shape.reshapeEquiv h (ix3 r g j) = ix2 r (col g j) := by
  refine Shape.reshapeEquiv_eq_of_rowMajor h ?_
  rw [Shape.rowMajor_val_two, Shape.rowMajor_val_three]
  show r.val * 2880 + (32 * g.val + j.val) = (r.val * 90 + g.val) * 32 + j.val
  omega
theorem rs_ungroup (h : S7680x90x32.ShapeCasts S7680x2880) (r : Fin 7680) (c : Fin 2880) :
    Shape.reshapeEquiv h (ix2 r c) = ix3 r ⟨c.val / 32, by omega⟩ ⟨c.val % 32, by omega⟩ := by
  refine Shape.reshapeEquiv_eq_of_rowMajor h ?_
  rw [Shape.rowMajor_val_two, Shape.rowMajor_val_three]
  show (r.val * 90 + c.val / 32) * 32 + c.val % 32 = r.val * 2880 + c.val
  omega
theorem rs_one (h : S7680x90.ShapeCasts S7680x90x1) (r : Fin 7680) (g : Fin 90) (j : Fin 1) :
    Shape.reshapeEquiv h (ix3 r g j) = ix2 r g := by
  refine Shape.reshapeEquiv_eq_of_rowMajor h ?_
  rw [Shape.rowMajor_val_two, Shape.rowMajor_val_three]
  show r.val * 90 + g.val = (r.val * 90 + g.val) * 1 + j.val
  omega
theorem rs_pair (h : S7680x90x32.ShapeCasts S7680x1440x2) (r : Fin 7680) (p : Fin 1440) (j : Fin 2) :
    Shape.reshapeEquiv h (ix3 r p j) = ix3 r ⟨p.val / 16, by omega⟩ ⟨2 * (p.val % 16) + j.val, by omega⟩ := by
  refine Shape.reshapeEquiv_eq_of_rowMajor h ?_
  rw [Shape.rowMajor_val_three, Shape.rowMajor_val_three]
  show (r.val * 90 + p.val / 16) * 32 + (2 * (p.val % 16) + j.val) = (r.val * 1440 + p.val) * 2 + j.val
  omega
theorem rs_byte (h : S7680x1440x1.ShapeCasts S7680x1440) (r : Fin 7680) (p : Fin 1440) :
    Shape.reshapeEquiv h (ix2 r p) = ix3 r p 0 := by
  refine Shape.reshapeEquiv_eq_of_rowMajor h ?_
  rw [Shape.rowMajor_val_two, Shape.rowMajor_val_three]
  show (r.val * 1440 + p.val) * 1 + 0 = r.val * 1440 + p.val
  omega

theorem bcast_lane {α : Type} {n m k : ℕ} (y : (⟨3, ![n, m, 1]⟩ : Shape).Idx → α) (h : (⟨3, ![n, m, 1]⟩ : Shape).Broadcasts ⟨3, ![n, m, k]⟩) (j : (⟨3, ![n, m, k]⟩ : Shape).Idx) :
    broadcastTo ⟨3, ![n, m, k]⟩ y h j = y (ix3 (j 0) (j 1) 0) := by
  unfold broadcastTo
  congr 1
  funext a
  match a with
  | ⟨0, _⟩ =>
    apply Fin.ext
    show _ = (j 0).val
    have hj : (j 0).val < n := (j 0).isLt
    by_cases hm : n = 1
    · subst hm; simp; omega
    · simp [hm]
  | ⟨1, _⟩ =>
    apply Fin.ext
    show _ = (j 1).val
    have hj : (j 1).val < m := (j 1).isLt
    by_cases hm : m = 1
    · subst hm; simp; omega
    · simp [hm]
  | ⟨2, _⟩ => exact Subsingleton.elim (α := Fin 1) _ _
theorem bcast_col {α : Type} {n m : ℕ} (y : (⟨2, ![n, 1]⟩ : Shape).Idx → α) (h : (⟨2, ![n, 1]⟩ : Shape).Broadcasts ⟨2, ![n, m]⟩) (j : (⟨2, ![n, m]⟩ : Shape).Idx) :
    broadcastTo ⟨2, ![n, m]⟩ y h j = y (ix2 (j 0) 0) := by
  unfold broadcastTo
  congr 1
  funext a
  match a with
  | ⟨0, _⟩ =>
    apply Fin.ext
    show _ = (j 0).val
    have hj : (j 0).val < n := (j 0).isLt
    by_cases hm : n = 1
    · subst hm; simp; omega
    · simp [hm]
  | ⟨1, _⟩ => exact Subsingleton.elim (α := Fin 1) _ _

/-! ## The payloads -/

/-- The weights over their scales. -/
theorem pay13_apply (w : Vec Ideal S7680x2880 .f32) (s : Vec Ideal S7680x90 .f32) (r : Fin 7680) (g : Fin 90) (j : Fin 32) :
    k0_pay13 w s (ix3 r g j) = Scalar.divf (F := Ideal) (w (ix2 r (col g j))) (s (ix2 r g)) := by
  pointwise [k0_pay13, bcast_lane, rs_group, rs_one]
/-- Their codes. -/
theorem pay14_apply (w : Vec Ideal S7680x2880 .f32) (s : Vec Ideal S7680x90 .f32) (y : S7680x90x32.Idx) :
    k0_pay14 w s y = refQ (k0_pay13 w s y) := rfl
/-- The masked gradient. -/
theorem pay17_apply (v d : FVec Ideal S7680x90x32 .f32) (r : Fin 7680) (c : Fin 2880) :
    k0_pay17 v d k0_pay16 (ix2 r c) = refM (v (ix3 r ⟨c.val / 32, by omega⟩ ⟨c.val % 32, by omega⟩)) (d (ix3 r ⟨c.val / 32, by omega⟩ ⟨c.val % 32, by omega⟩)) := by
  rw [← rs_ungroup shapeCasts_S7680x90x32_S7680x2880]
  rfl
/-- The scale gradient: a group's lanes summed. -/
theorem pay18_apply (w : Vec Ideal S7680x2880 .f32) (s : Vec Ideal S7680x90 .f32) (d : FVec Ideal S7680x90x32 .f32) (r : Fin 7680) (g : Fin 90) :
    k0_pay18 (k0_pay13 w s) (k0_pay14 w s) d (ix2 r g) = Scalar.mulf (Scalar.ofBits .f32 0x3D88D677#32) (∑ j : Fin 32, (refF (k0_pay13 w s (ix3 r g j)) * d (ix3 r g j) : EReal) : EReal) := by
  generalize hv : k0_pay13 w s = v
  have hq : k0_pay14 w s = fun y => refQ (v y) := by subst hv; rfl
  rw [hq]
  have hp : k0_pay18 v (fun y => refQ (v y)) d = mulf (broadcast S7680x90 (Scalar.ofBits .f32 0x3D88D677#32))
    (multiReduction .add [2] S7680x90 (fun y => Scalar.mulf (F := Ideal) (φ := .f32) (refF (v y)) (d y)) 0x00000000#32 reduces_S7680x90x32_S7680x90 (.inl rfl) rfl) := rfl
  rw [hp]
  pointwise
/-- The product, scaled by its rows and its columns. -/
theorem pay15_apply (v32 : FVec Ideal S1024x2880 .fp8e4m3) (v33 : FVec Ideal S1x2880 .f32) (v36 : FVec Ideal S1024x7680 .f32) (v39 : FVec Ideal S1x7680 .f32)
    (v41 : FVec Ideal S1x7680 .f32) (v43 : FVec Ideal S256x7680 .f32) (r : Fin 7680) (g : Fin 90) (j : Fin 32) :
    k0_pay15 v32 v33 v36 v39 v41 v43 (ix3 r g j)
      = Scalar.mulf (F := Ideal) (φ := .f32) (Scalar.mulf (∑ k : Fin 1024, (k0_pay11 v36 v39 v41 v43 (ix2 k r) * v32 (ix2 k (col g j)) : EReal) : EReal) (k0_pay12 v39 v41 v43 (ix2 0 r))) (v33 (ix2 0 (col g j))) := by
  unfold k0_pay15
  generalize k0_pay11 v36 v39 v41 v43 = a
  generalize k0_pay12 v39 v41 v43 = b
  pointwise [rs_group, bcast_col, bcast_row]
/-- The packed bytes. -/
theorem pay1_apply (q : IVec S7680x90x32 8) (r : Fin 7680) (p : Fin 1440) :
    k0_pay1 (k0_pay20 q) (k0_pay21 q) (ix2 r p)
      = (q (ix3 r ⟨p.val / 16, by omega⟩ ⟨2 * (p.val % 16), by omega⟩) &&& 15#8) ||| ((q (ix3 r ⟨p.val / 16, by omega⟩ ⟨2 * (p.val % 16) + 1, by omega⟩) &&& 15#8) <<< 4) := by
  pointwise [k0_pay1, k0_pay20, k0_pay21, k0_pay19, rs_byte, rs_pair]
  rfl

end Cert.ReferenceIdeal.Hand

end
-- ==== Proof.RefSpec.lean ====
/- What the reference computes of tame inputs: the arrays that the kernel computes. -/
module

public import proofs.«01_k».proof.Proof.RefRead
public import proofs.«01_k».proof.Proof.Whole

@[expose] public section

set_option maxRecDepth 16384

noncomputable section

namespace Cert.ReferenceIdeal.Hand

open Cert.ReferenceIdeal.Gen Cert.Quant Cert.KernelIdeal.Hand
open Idealize.ShloMosaic Idealize.ShloMosaic.TcCoe Idealize.ShloMosaic.Tactic

variable (x : Vec Ideal S1024x2880 .bf16) (y : Vec Ideal S1024x7680 .bf16) (w : Vec Ideal S7680x2880 .f32) (s : Vec Ideal S7680x90 .f32)

/-- The column maxima from either start. -/
theorem colMax_start {n m : ℕ} (z : (⟨2, ![n, m]⟩ : Shape).Idx → EReal) (c : Fin m) :
    colMax (Ideal.ofBits .f32 0xFF800000#32) z c = colMax (Ideal.ofBits .bf16 0xFF80#16) z c := by
  rw [bot16, bot32]

/-! ## The quantisers -/

section
variable (hx : ∀ c, Tame mx (colMax (Ideal.ofBits .bf16 0xFF80#16) x c))
include hx
theorem r4_apply (r : Fin 1024) (c : Fin 2880) : (k0_pay4 x (ix2 r c) : EReal) = bXQ x (ix2 r c) := by
  rw [ref4_eq, qR_apply, colMax_start, ← (tame_x _ (hx c)).2]
  show _ = quantOf mx 0xC3E0#16 0x43E0#16 x r c
  unfold quantOf
  rw [lo8, hi8]
theorem r5_apply (c : Fin 2880) : (k0_pay5 x (ix2 0 c) : EReal) = scaleOf mx x c := by
  rw [ref5_eq, sR_apply, colMax_start, ← (tame_x _ (hx c)).1]
  rfl
theorem r4_eq : k0_pay4 x = bXQ x := by
  funext i
  rw [eq_ix2 i]
  exact r4_apply x hx _ _
theorem r5_eq : k0_pay5 x = bSX x := by
  funext i
  obtain ⟨p, c, rfl⟩ : ∃ (p : Fin 1) (c : Fin 2880), i = ix2 p c := ⟨i 0, i 1, eq_ix2 i⟩
  obtain rfl : p = 0 := Subsingleton.elim _ _
  exact r5_apply x hx c
end
section
variable (hy : ∀ c, Tame my (colMax (Ideal.ofBits .bf16 0xFF80#16) y c))
include hy
theorem r11_apply (r : Fin 1024) (c : Fin 7680) : (k0_pay11 (k0_pay6 y) (k0_pay7 y) (k0_pay8 y) k0_pay9 (ix2 r c) : EReal) = gDQ y (ix2 r c) := by
  rw [ref11_eq, qR_apply, colMax_start, ← (tame_y _ (hy c)).2]
  show _ = quantOf my 0xC760#16 0x4760#16 y r c
  unfold quantOf
  rw [lo5, hi5]
theorem r12_apply (c : Fin 7680) : (k0_pay12 (k0_pay7 y) (k0_pay8 y) k0_pay9 (ix2 0 c) : EReal) = scaleOf my y c := by
  rw [ref12_eq, sR_apply, colMax_start, ← (tame_y _ (hy c)).1]
  rfl
theorem r11_eq : k0_pay11 (k0_pay6 y) (k0_pay7 y) (k0_pay8 y) k0_pay9 = gDQ y := by
  funext i
  rw [eq_ix2 i]
  exact r11_apply y hy _ _
theorem r12_eq : k0_pay12 (k0_pay7 y) (k0_pay8 y) k0_pay9 = gSY y := by
  funext i
  obtain ⟨p, c, rfl⟩ : ∃ (p : Fin 1) (c : Fin 7680), i = ix2 p c := ⟨i 0, i 1, eq_ix2 i⟩
  obtain rfl : p = 0 := Subsingleton.elim _ _
  exact r12_apply y hy c
end

/-! ## The weights over their scales -/

section
variable (hs : ∀ i, (s i : EReal) ≠ 0)
include hs
theorem r13_apply (r : Fin 7680) (g : Fin 90) (j : Fin 32) : (k0_pay13 w s (ix3 r g j) : EReal) = gV w s r (col g j) := by
  rw [pay13_apply]
  unfold gV
  have hg : (⟨(col g j).val / 32, by have := (col g j).isLt; omega⟩ : Fin 90) = g := Fin.ext (by show (32 * g.val + j.val) / 32 = g.val; omega)
  rw [hg, mul_recip _ _ (hs _)]

/-- The packed codes. -/
theorem rQP_eq : k0_pay1 (k0_pay20 (k0_pay14 w s)) (k0_pay21 (k0_pay14 w s)) = gQP w s := by
  funext i
  obtain ⟨r, p, rfl⟩ : ∃ (r : Fin 7680) (p : Fin 1440), i = ix2 r p := ⟨i 0, i 1, eq_ix2 i⟩
  rw [pay1_apply, pay14_apply, pay14_apply, refQ_eq, refQ_eq, r13_apply w s hs, r13_apply w s hs]
  have h0 : col ⟨p.val / 16, by omega⟩ ⟨2 * (p.val % 16), by omega⟩ = ⟨2 * p.val, by omega⟩ := Fin.ext (by show 32 * (p.val / 16) + 2 * (p.val % 16) = 2 * p.val; omega)
  have h1 : col ⟨p.val / 16, by omega⟩ ⟨2 * (p.val % 16) + 1, by omega⟩ = ⟨2 * p.val + 1, by omega⟩ := Fin.ext (by show 32 * (p.val / 16) + (2 * (p.val % 16) + 1) = 2 * p.val + 1; omega)
  rw [h0, h1]
  rfl
end

/-! ## The gradients -/

/-- The scaled product, group by group. -/
abbrev rD : FVec Ideal S7680x90x32 .f32 := k0_pay15 (k0_pay4 x) (k0_pay5 x) (k0_pay6 y) (k0_pay7 y) (k0_pay8 y) k0_pay9

section
variable (hx : ∀ c, Tame mx (colMax (Ideal.ofBits .bf16 0xFF80#16) x c)) (hy : ∀ c, Tame my (colMax (Ideal.ofBits .bf16 0xFF80#16) y c)) (hs : ∀ i, (s i : EReal) ≠ 0)
include hx hy
theorem rD_apply (r : Fin 7680) (g : Fin 90) (j : Fin 32) : (rD x y (ix3 r g j) : EReal) = gD x y r (col g j) := by
  unfold rD
  rw [pay15_apply, r11_eq y hy, r12_apply y hy, r4_eq x hx, r5_apply x hx]
  rfl
include hs
/-- The weight gradient. -/
theorem rDW_eq : k0_pay17 (k0_pay13 w s) (rD x y) k0_pay16 = gDW x y w s := by
  funext i
  obtain ⟨r, c, rfl⟩ : ∃ (r : Fin 7680) (c : Fin 2880), i = ix2 r c := ⟨i 0, i 1, eq_ix2 i⟩
  rw [pay17_apply, r13_apply w s hs, rD_apply x y hx hy, refM_eq]
  have hc : col ⟨c.val / 32, by omega⟩ ⟨c.val % 32, by omega⟩ = c := Fin.ext (by show 32 * (c.val / 32) + c.val % 32 = c.val; omega)
  rw [hc]
  rfl
/-- The scale gradient. -/
theorem rDS_eq : k0_pay18 (k0_pay13 w s) (k0_pay14 w s) (rD x y) = gDS x y w s := by
  funext i
  obtain ⟨r, g, rfl⟩ : ∃ (r : Fin 7680) (g : Fin 90), i = ix2 r g := ⟨i 0, i 1, eq_ix2 i⟩
  rw [pay18_apply]
  have e : ∀ j : Fin 32, (refF (k0_pay13 w s (ix3 r g j)) * rD x y (ix3 r g j) : EReal) = gFD x y w s r (col g j) := by
    intro j
    rw [r13_apply w s hs, rD_apply x y hx hy, refF_eq]
    rfl
  simp only [e]
  rw [← sum_lanes (fun j => gFD x y w s r (col g j))]
  have e2 : ∀ (j : Fin 8) (k : Fin 4), col g ⟨8 * k.val + j.val, by omega⟩ = gcol g j k := fun j k => Fin.ext (by show 32 * g.val + (8 * k.val + j.val) = 32 * g.val + 8 * k.val + j.val; omega)
  simp only [e2]
  exact mul_comm (G := EReal) _ _
end

end Cert.ReferenceIdeal.Hand

end
-- ==== Proof.RefFinal.lean ====
/- The reference's final arrays over the reals: its one point's blocks are the whole arrays. -/
module

public import proofs.«01_k».proof.Proof.RefSpec
public import proofs.«01_k».proof.Proof.Gen.ReferenceIdeal.Value

@[expose] public section

set_option maxRecDepth 16384

noncomputable section

namespace Cert.ReferenceIdeal.Hand

open Cert.ReferenceIdeal.Gen Cert.Quant
open Cert.KernelIdeal.Hand (mx my Tame bXQ bSX gDQ gSY gDW gDS gQP)
open Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg) (c : Dev nD)

/-- The arrays that the region reads. -/
abbrev bX : Vec Ideal S1024x2880 .bf16 := V m c main_v0
abbrev bY : Vec Ideal S1024x7680 .bf16 := V m c main_v1
abbrev bW : Vec Ideal S7680x2880 .f32 := V m c main_arg2
abbrev bS : Vec Ideal S7680x90 .f32 := V m c main_arg3

theorem hz : (![0, 0] : Fin 2 → Nat) = fun _ => 0 := funext fun a => by fin_cases a <;> rfl
/-- The one point. -/
def tOne : Fin cfg0.N := ⟨0, by decide⟩

theorem idx0_facts : ∀ t : Fin cfg0.N, win0_0.index t (0 : Fin 2) = 0 ∧ win0_0.index t (1 : Fin 2) = 0 := (by decide +kernel : ∀ t : Fin grid0.N, _)
theorem wemb0 (t : Fin cfg0.N) (r : Fin 1024) (q : Fin 2880) : ((cfg0.win 0).blk t).view.emb (ix2 r q : (⟨2, ![1024, 2880]⟩ : Shape).Idx) = (ix2 r q : (⟨2, ![1024, 2880]⟩ : Shape).Idx) := by
  obtain ⟨e0, e1⟩ := idx0_facts t
  funext a; apply Fin.ext
  match a with
  | ⟨0, _⟩ => show win0_0.index t (0 : Fin 2) * 1024 + 1 * r.val = r.val; omega
  | ⟨1, _⟩ => show win0_0.index t (1 : Fin 2) * 2880 + 1 * q.val = q.val; omega
theorem iblk0_eq (t : Fin cfg0.N) : (iblk m c 0 t : Vec Ideal S1024x2880 .bf16) = bX m c := by
  funext y
  rw [eq_ix2 y]
  show V m c main_v0 (((cfg0.win 0).blk t).view.emb (ix2 (y 0) (y 1) : S1024x2880.Idx)) = _
  exact congrArg (V m c main_v0) (wemb0 t (y 0) (y 1))
theorem idx1_facts : ∀ t : Fin cfg0.N, win0_1.index t (0 : Fin 2) = 0 ∧ win0_1.index t (1 : Fin 2) = 0 := (by decide +kernel : ∀ t : Fin grid0.N, _)
theorem wemb1 (t : Fin cfg0.N) (r : Fin 1024) (q : Fin 7680) : ((cfg0.win 1).blk t).view.emb (ix2 r q : (⟨2, ![1024, 7680]⟩ : Shape).Idx) = (ix2 r q : (⟨2, ![1024, 7680]⟩ : Shape).Idx) := by
  obtain ⟨e0, e1⟩ := idx1_facts t
  funext a; apply Fin.ext
  match a with
  | ⟨0, _⟩ => show win0_1.index t (0 : Fin 2) * 1024 + 1 * r.val = r.val; omega
  | ⟨1, _⟩ => show win0_1.index t (1 : Fin 2) * 7680 + 1 * q.val = q.val; omega
theorem iblk1_eq (t : Fin cfg0.N) : (iblk m c 1 t : Vec Ideal S1024x7680 .bf16) = bY m c := by
  funext y
  rw [eq_ix2 y]
  show V m c main_v1 (((cfg0.win 1).blk t).view.emb (ix2 (y 0) (y 1) : S1024x7680.Idx)) = _
  exact congrArg (V m c main_v1) (wemb1 t (y 0) (y 1))
theorem idx2_facts : ∀ t : Fin cfg0.N, win0_2.index t (0 : Fin 2) = 0 ∧ win0_2.index t (1 : Fin 2) = 0 := (by decide +kernel : ∀ t : Fin grid0.N, _)
theorem wemb2 (t : Fin cfg0.N) (r : Fin 7680) (q : Fin 2880) : ((cfg0.win 2).blk t).view.emb (ix2 r q : (⟨2, ![7680, 2880]⟩ : Shape).Idx) = (ix2 r q : (⟨2, ![7680, 2880]⟩ : Shape).Idx) := by
  obtain ⟨e0, e1⟩ := idx2_facts t
  funext a; apply Fin.ext
  match a with
  | ⟨0, _⟩ => show win0_2.index t (0 : Fin 2) * 7680 + 1 * r.val = r.val; omega
  | ⟨1, _⟩ => show win0_2.index t (1 : Fin 2) * 2880 + 1 * q.val = q.val; omega
theorem iblk2_eq (t : Fin cfg0.N) : (iblk m c 2 t : Vec Ideal S7680x2880 .f32) = bW m c := by
  funext y
  rw [eq_ix2 y]
  show V m c main_arg2 (((cfg0.win 2).blk t).view.emb (ix2 (y 0) (y 1) : S7680x2880.Idx)) = _
  exact congrArg (V m c main_arg2) (wemb2 t (y 0) (y 1))
theorem idx3_facts : ∀ t : Fin cfg0.N, win0_3.index t (0 : Fin 2) = 0 ∧ win0_3.index t (1 : Fin 2) = 0 := (by decide +kernel : ∀ t : Fin grid0.N, _)
theorem wemb3 (t : Fin cfg0.N) (r : Fin 7680) (q : Fin 90) : ((cfg0.win 3).blk t).view.emb (ix2 r q : (⟨2, ![7680, 90]⟩ : Shape).Idx) = (ix2 r q : (⟨2, ![7680, 90]⟩ : Shape).Idx) := by
  obtain ⟨e0, e1⟩ := idx3_facts t
  funext a; apply Fin.ext
  match a with
  | ⟨0, _⟩ => show win0_3.index t (0 : Fin 2) * 7680 + 1 * r.val = r.val; omega
  | ⟨1, _⟩ => show win0_3.index t (1 : Fin 2) * 90 + 1 * q.val = q.val; omega
theorem iblk3_eq (t : Fin cfg0.N) : (iblk m c 3 t : Vec Ideal S7680x90 .f32) = bS m c := by
  funext y
  rw [eq_ix2 y]
  show V m c main_arg3 (((cfg0.win 3).blk t).view.emb (ix2 (y 0) (y 1) : S7680x90.Idx)) = _
  exact congrArg (V m c main_arg3) (wemb3 t (y 0) (y 1))
theorem idx4_facts : ∀ t : Fin cfg0.N, win0_4.index t (0 : Fin 2) = 0 ∧ win0_4.index t (1 : Fin 2) = 0 := (by decide +kernel : ∀ t : Fin grid0.N, _)
theorem wemb4 (t : Fin cfg0.N) (r : Fin 7680) (q : Fin 2880) : ((cfg0.win 4).blk t).view.emb (ix2 r q : (⟨2, ![7680, 2880]⟩ : Shape).Idx) = (ix2 r q : (⟨2, ![7680, 2880]⟩ : Shape).Idx) := by
  obtain ⟨e0, e1⟩ := idx4_facts t
  funext a; apply Fin.ext
  match a with
  | ⟨0, _⟩ => show win0_4.index t (0 : Fin 2) * 7680 + 1 * r.val = r.val; omega
  | ⟨1, _⟩ => show win0_4.index t (1 : Fin 2) * 2880 + 1 * q.val = q.val; omega
theorem idx5_facts : ∀ t : Fin cfg0.N, win0_5.index t (0 : Fin 2) = 0 ∧ win0_5.index t (1 : Fin 2) = 0 := (by decide +kernel : ∀ t : Fin grid0.N, _)
theorem wemb5 (t : Fin cfg0.N) (r : Fin 7680) (q : Fin 90) : ((cfg0.win 5).blk t).view.emb (ix2 r q : (⟨2, ![7680, 90]⟩ : Shape).Idx) = (ix2 r q : (⟨2, ![7680, 90]⟩ : Shape).Idx) := by
  obtain ⟨e0, e1⟩ := idx5_facts t
  funext a; apply Fin.ext
  match a with
  | ⟨0, _⟩ => show win0_5.index t (0 : Fin 2) * 7680 + 1 * r.val = r.val; omega
  | ⟨1, _⟩ => show win0_5.index t (1 : Fin 2) * 90 + 1 * q.val = q.val; omega
theorem idx6_facts : ∀ t : Fin cfg0.N, win0_6.index t (0 : Fin 2) = 0 ∧ win0_6.index t (1 : Fin 2) = 0 := (by decide +kernel : ∀ t : Fin grid0.N, _)
theorem wemb6 (t : Fin cfg0.N) (r : Fin 1024) (q : Fin 2880) : ((cfg0.win 6).blk t).view.emb (ix2 r q : (⟨2, ![1024, 2880]⟩ : Shape).Idx) = (ix2 r q : (⟨2, ![1024, 2880]⟩ : Shape).Idx) := by
  obtain ⟨e0, e1⟩ := idx6_facts t
  funext a; apply Fin.ext
  match a with
  | ⟨0, _⟩ => show win0_6.index t (0 : Fin 2) * 1024 + 1 * r.val = r.val; omega
  | ⟨1, _⟩ => show win0_6.index t (1 : Fin 2) * 2880 + 1 * q.val = q.val; omega
theorem idx7_facts : ∀ t : Fin cfg0.N, win0_7.index t (0 : Fin 2) = 0 ∧ win0_7.index t (1 : Fin 2) = 0 := (by decide +kernel : ∀ t : Fin grid0.N, _)
theorem wemb7 (t : Fin cfg0.N) (r : Fin 1) (q : Fin 2880) : ((cfg0.win 7).blk t).view.emb (ix2 r q : (⟨2, ![1, 2880]⟩ : Shape).Idx) = (ix2 r q : (⟨2, ![1, 2880]⟩ : Shape).Idx) := by
  obtain ⟨e0, e1⟩ := idx7_facts t
  funext a; apply Fin.ext
  match a with
  | ⟨0, _⟩ => show win0_7.index t (0 : Fin 2) * 1 + 1 * r.val = r.val; omega
  | ⟨1, _⟩ => show win0_7.index t (1 : Fin 2) * 2880 + 1 * q.val = q.val; omega
theorem idx8_facts : ∀ t : Fin cfg0.N, win0_8.index t (0 : Fin 2) = 0 ∧ win0_8.index t (1 : Fin 2) = 0 := (by decide +kernel : ∀ t : Fin grid0.N, _)
theorem wemb8 (t : Fin cfg0.N) (r : Fin 1024) (q : Fin 7680) : ((cfg0.win 8).blk t).view.emb (ix2 r q : (⟨2, ![1024, 7680]⟩ : Shape).Idx) = (ix2 r q : (⟨2, ![1024, 7680]⟩ : Shape).Idx) := by
  obtain ⟨e0, e1⟩ := idx8_facts t
  funext a; apply Fin.ext
  match a with
  | ⟨0, _⟩ => show win0_8.index t (0 : Fin 2) * 1024 + 1 * r.val = r.val; omega
  | ⟨1, _⟩ => show win0_8.index t (1 : Fin 2) * 7680 + 1 * q.val = q.val; omega
theorem idx9_facts : ∀ t : Fin cfg0.N, win0_9.index t (0 : Fin 2) = 0 ∧ win0_9.index t (1 : Fin 2) = 0 := (by decide +kernel : ∀ t : Fin grid0.N, _)
theorem wemb9 (t : Fin cfg0.N) (r : Fin 1) (q : Fin 7680) : ((cfg0.win 9).blk t).view.emb (ix2 r q : (⟨2, ![1, 7680]⟩ : Shape).Idx) = (ix2 r q : (⟨2, ![1, 7680]⟩ : Shape).Idx) := by
  obtain ⟨e0, e1⟩ := idx9_facts t
  funext a; apply Fin.ext
  match a with
  | ⟨0, _⟩ => show win0_9.index t (0 : Fin 2) * 1 + 1 * r.val = r.val; omega
  | ⟨1, _⟩ => show win0_9.index t (1 : Fin 2) * 7680 + 1 * q.val = q.val; omega
theorem idx10_facts : ∀ t : Fin cfg0.N, win0_10.index t (0 : Fin 2) = 0 ∧ win0_10.index t (1 : Fin 2) = 0 := (by decide +kernel : ∀ t : Fin grid0.N, _)
theorem wemb10 (t : Fin cfg0.N) (r : Fin 7680) (q : Fin 1440) : ((cfg0.win 10).blk t).view.emb (ix2 r q : (⟨2, ![7680, 1440]⟩ : Shape).Idx) = (ix2 r q : (⟨2, ![7680, 1440]⟩ : Shape).Idx) := by
  obtain ⟨e0, e1⟩ := idx10_facts t
  funext a; apply Fin.ext
  match a with
  | ⟨0, _⟩ => show win0_10.index t (0 : Fin 2) * 7680 + 1 * r.val = r.val; omega
  | ⟨1, _⟩ => show win0_10.index t (1 : Fin 2) * 1440 + 1 * q.val = q.val; omega

/-! ## What the body leaves -/
section
variable (x : Vec Ideal S1024x2880 .bf16) (y : Vec Ideal S1024x7680 .bf16) (w : Vec Ideal S7680x2880 .f32) (s : Vec Ideal S7680x90 .f32)
theorem ldX : View.ld x r0_0 = x := View.ld_unit_zero hz _ x
theorem ldY : View.ld y r0_1 = y := View.ld_unit_zero hz _ y
theorem ldW : View.ld w r0_2 = w := View.ld_unit_zero hz _ w
theorem ldS : View.ld s r0_3 = s := View.ld_unit_zero hz _ s
theorem v22 : k0_pay22 x y w s = k0_pay4 x := congrArg k0_pay4 (ldX x)
theorem v23 : k0_pay23 x y w s = k0_pay5 x := congrArg k0_pay5 (ldX x)
theorem v24 : k0_pay24 x y w s = k0_pay6 y := congrArg k0_pay6 (ldY y)
theorem v25 : k0_pay25 x y w s = k0_pay7 y := congrArg k0_pay7 (ldY y)
theorem v26 : k0_pay26 x y w s = k0_pay8 y := congrArg k0_pay8 (ldY y)
theorem v27 : k0_pay27 x y w s = k0_pay9 := rfl
theorem v28 : k0_pay28 x y w s = k0_pay13 w s := congrArg₂ k0_pay13 (ldW w) (ldS s)
theorem v29 : k0_pay29 x y w s = k0_pay14 w s := congrArg₂ k0_pay14 (ldW w) (ldS s)
theorem v30 : k0_pay30 x y w s = rD x y := by
  unfold k0_pay30 rD
  rw [v22, v23, v24, v25, v26, v27]
variable (hx : ∀ c, Tame mx (colMax (Ideal.ofBits .bf16 0xFF80#16) x c)) (hy : ∀ c, Tame my (colMax (Ideal.ofBits .bf16 0xFF80#16) y c)) (hs : ∀ i, (s i : EReal) ≠ 0)
include hx hy hs
theorem o4 : out0_4 x y w s = gDW x y w s := by
  unfold out0_4
  refine (View.canon_unit_zero hz _ _).trans ?_
  rw [v28, v30]
  exact rDW_eq x y w s hx hy hs
theorem o5 : out0_5 x y w s = gDS x y w s := by
  unfold out0_5
  refine (View.canon_unit_zero hz _ _).trans ?_
  rw [v28, v29, v30]
  exact rDS_eq x y w s hx hy hs
theorem o6 : out0_6 x y w s = bXQ x := by
  unfold out0_6
  refine (View.canon_unit_zero hz _ _).trans ?_
  rw [v22]
  exact r4_eq x hx
theorem o7 : out0_7 x y w s = bSX x := by
  unfold out0_7
  refine (View.canon_unit_zero hz _ _).trans ?_
  rw [v23]
  exact r5_eq x hx
theorem o8 : out0_8 x y w s = gDQ y := by
  unfold out0_8
  refine (View.canon_unit_zero hz _ _).trans ?_
  rw [v24, v25, v26, v27]
  exact r11_eq y hy
theorem o9 : out0_9 x y w s = gSY y := by
  unfold out0_9
  refine (View.canon_unit_zero hz _ _).trans ?_
  rw [v25, v26, v27]
  exact r12_eq y hy
theorem o10 : out0_10 x y w s = gQP w s := by
  unfold out0_10
  refine (View.canon_unit_zero hz _ _).trans ?_
  rw [v29]
  exact rQP_eq w s hs
end

/-! ## The final arrays -/
section
variable (hx : ∀ q, Tame mx (colMax (Ideal.ofBits .bf16 0xFF80#16) (bX m c) q)) (hy : ∀ q, Tame my (colMax (Ideal.ofBits .bf16 0xFF80#16) (bY m c) q)) (hs : ∀ i, (bS m c i : EReal) ≠ 0)
theorem cut4 (t : Fin cfg0.N) (B : Vec Ideal S7680x2880 .f32) : (cfg0.win 4).cut (grid0.coords t) B = ((cfg0.win 4).blk t).view.read (Elt Ideal) B := by
  funext (y : S7680x2880.Idx)
  obtain ⟨r, q, rfl⟩ : ∃ (r : Fin 7680) (q : Fin 2880), y = ix2 r q := ⟨y 0, y 1, eq_ix2 y⟩
  show B (ix2 r q) = B (((cfg0.win 4).blk t).view.emb (ix2 r q : S7680x2880.Idx))
  exact (congrArg B (wemb4 t r q)).symm
theorem cover4 (i : S7680x2880.Idx) : ∃ t : Fin cfg0.N, (cfg0.win 4).flush t = true ∧ i ∈ ((cfg0.win 4).blk t).view.set := by
  refine ⟨tOne, by decide +kernel, ?_⟩
  have e : ((cfg0.win 4).blk tOne).view.emb (ix2 (i 0) (i 1) : S7680x2880.Idx) = i := (wemb4 tOne (i 0) (i 1)).trans (eq_ix2 i).symm
  exact Eq.subst (motive := fun j => j ∈ ((cfg0.win 4).blk tOne).view.set) e (((cfg0.win 4).blk tOne).view.emb_mem_set _)
theorem final4_of (G : Vec Ideal S7680x2880 .f32) (h : ∀ t, out0_4 (iblk m c 0 t) (iblk m c 1 t) (iblk m c 2 t) (iblk m c 3 t) = G) : (dats m 0 c).arrAt 4 cfg0.N = G :=
  (dats m 0 c).arrAt_eq_of_cover 4 G (fun t _ => (Value.flushed4 m c t).trans ((congrArg ((cfg0.win 4).cut (grid0.coords t)) (h t)).trans (cut4 t G))) cover4
include hx hy hs in
theorem final4 : (dats m 0 c).arrAt 4 cfg0.N = (gDW (bX m c) (bY m c) (bW m c) (bS m c) : Vec Ideal S7680x2880 .f32) :=
  final4_of m c _ fun t => by
    rw [iblk0_eq m c t, iblk1_eq m c t, iblk2_eq m c t, iblk3_eq m c t]
    exact o4 _ _ _ _ hx hy hs
theorem cut5 (t : Fin cfg0.N) (B : Vec Ideal S7680x90 .f32) : (cfg0.win 5).cut (grid0.coords t) B = ((cfg0.win 5).blk t).view.read (Elt Ideal) B := by
  funext (y : S7680x90.Idx)
  obtain ⟨r, q, rfl⟩ : ∃ (r : Fin 7680) (q : Fin 90), y = ix2 r q := ⟨y 0, y 1, eq_ix2 y⟩
  show B (ix2 r q) = B (((cfg0.win 5).blk t).view.emb (ix2 r q : S7680x90.Idx))
  exact (congrArg B (wemb5 t r q)).symm
theorem cover5 (i : S7680x90.Idx) : ∃ t : Fin cfg0.N, (cfg0.win 5).flush t = true ∧ i ∈ ((cfg0.win 5).blk t).view.set := by
  refine ⟨tOne, by decide +kernel, ?_⟩
  have e : ((cfg0.win 5).blk tOne).view.emb (ix2 (i 0) (i 1) : S7680x90.Idx) = i := (wemb5 tOne (i 0) (i 1)).trans (eq_ix2 i).symm
  exact Eq.subst (motive := fun j => j ∈ ((cfg0.win 5).blk tOne).view.set) e (((cfg0.win 5).blk tOne).view.emb_mem_set _)
theorem final5_of (G : Vec Ideal S7680x90 .f32) (h : ∀ t, out0_5 (iblk m c 0 t) (iblk m c 1 t) (iblk m c 2 t) (iblk m c 3 t) = G) : (dats m 0 c).arrAt 5 cfg0.N = G :=
  (dats m 0 c).arrAt_eq_of_cover 5 G (fun t _ => (Value.flushed5 m c t).trans ((congrArg ((cfg0.win 5).cut (grid0.coords t)) (h t)).trans (cut5 t G))) cover5
include hx hy hs in
theorem final5 : (dats m 0 c).arrAt 5 cfg0.N = (gDS (bX m c) (bY m c) (bW m c) (bS m c) : Vec Ideal S7680x90 .f32) :=
  final5_of m c _ fun t => by
    rw [iblk0_eq m c t, iblk1_eq m c t, iblk2_eq m c t, iblk3_eq m c t]
    exact o5 _ _ _ _ hx hy hs
theorem cut6 (t : Fin cfg0.N) (B : Vec Ideal S1024x2880 .fp8e4m3) : (cfg0.win 6).cut (grid0.coords t) B = ((cfg0.win 6).blk t).view.read (Elt Ideal) B := by
  funext (y : S1024x2880.Idx)
  obtain ⟨r, q, rfl⟩ : ∃ (r : Fin 1024) (q : Fin 2880), y = ix2 r q := ⟨y 0, y 1, eq_ix2 y⟩
  show B (ix2 r q) = B (((cfg0.win 6).blk t).view.emb (ix2 r q : S1024x2880.Idx))
  exact (congrArg B (wemb6 t r q)).symm
theorem cover6 (i : S1024x2880.Idx) : ∃ t : Fin cfg0.N, (cfg0.win 6).flush t = true ∧ i ∈ ((cfg0.win 6).blk t).view.set := by
  refine ⟨tOne, by decide +kernel, ?_⟩
  have e : ((cfg0.win 6).blk tOne).view.emb (ix2 (i 0) (i 1) : S1024x2880.Idx) = i := (wemb6 tOne (i 0) (i 1)).trans (eq_ix2 i).symm
  exact Eq.subst (motive := fun j => j ∈ ((cfg0.win 6).blk tOne).view.set) e (((cfg0.win 6).blk tOne).view.emb_mem_set _)
theorem final6_of (G : Vec Ideal S1024x2880 .fp8e4m3) (h : ∀ t, out0_6 (iblk m c 0 t) (iblk m c 1 t) (iblk m c 2 t) (iblk m c 3 t) = G) : (dats m 0 c).arrAt 6 cfg0.N = G :=
  (dats m 0 c).arrAt_eq_of_cover 6 G (fun t _ => (Value.flushed6 m c t).trans ((congrArg ((cfg0.win 6).cut (grid0.coords t)) (h t)).trans (cut6 t G))) cover6
include hx hy hs in
theorem final6 : (dats m 0 c).arrAt 6 cfg0.N = (bXQ (bX m c) : Vec Ideal S1024x2880 .fp8e4m3) :=
  final6_of m c _ fun t => by
    rw [iblk0_eq m c t, iblk1_eq m c t, iblk2_eq m c t, iblk3_eq m c t]
    exact o6 _ _ _ _ hx hy hs
theorem cut7 (t : Fin cfg0.N) (B : Vec Ideal S1x2880 .f32) : (cfg0.win 7).cut (grid0.coords t) B = ((cfg0.win 7).blk t).view.read (Elt Ideal) B := by
  funext (y : S1x2880.Idx)
  obtain ⟨r, q, rfl⟩ : ∃ (r : Fin 1) (q : Fin 2880), y = ix2 r q := ⟨y 0, y 1, eq_ix2 y⟩
  show B (ix2 r q) = B (((cfg0.win 7).blk t).view.emb (ix2 r q : S1x2880.Idx))
  exact (congrArg B (wemb7 t r q)).symm
theorem cover7 (i : S1x2880.Idx) : ∃ t : Fin cfg0.N, (cfg0.win 7).flush t = true ∧ i ∈ ((cfg0.win 7).blk t).view.set := by
  refine ⟨tOne, by decide +kernel, ?_⟩
  have e : ((cfg0.win 7).blk tOne).view.emb (ix2 (i 0) (i 1) : S1x2880.Idx) = i := (wemb7 tOne (i 0) (i 1)).trans (eq_ix2 i).symm
  exact Eq.subst (motive := fun j => j ∈ ((cfg0.win 7).blk tOne).view.set) e (((cfg0.win 7).blk tOne).view.emb_mem_set _)
theorem final7_of (G : Vec Ideal S1x2880 .f32) (h : ∀ t, out0_7 (iblk m c 0 t) (iblk m c 1 t) (iblk m c 2 t) (iblk m c 3 t) = G) : (dats m 0 c).arrAt 7 cfg0.N = G :=
  (dats m 0 c).arrAt_eq_of_cover 7 G (fun t _ => (Value.flushed7 m c t).trans ((congrArg ((cfg0.win 7).cut (grid0.coords t)) (h t)).trans (cut7 t G))) cover7
include hx hy hs in
theorem final7 : (dats m 0 c).arrAt 7 cfg0.N = (bSX (bX m c) : Vec Ideal S1x2880 .f32) :=
  final7_of m c _ fun t => by
    rw [iblk0_eq m c t, iblk1_eq m c t, iblk2_eq m c t, iblk3_eq m c t]
    exact o7 _ _ _ _ hx hy hs
theorem cut8 (t : Fin cfg0.N) (B : Vec Ideal S1024x7680 .fp8e5m2) : (cfg0.win 8).cut (grid0.coords t) B = ((cfg0.win 8).blk t).view.read (Elt Ideal) B := by
  funext (y : S1024x7680.Idx)
  obtain ⟨r, q, rfl⟩ : ∃ (r : Fin 1024) (q : Fin 7680), y = ix2 r q := ⟨y 0, y 1, eq_ix2 y⟩
  show B (ix2 r q) = B (((cfg0.win 8).blk t).view.emb (ix2 r q : S1024x7680.Idx))
  exact (congrArg B (wemb8 t r q)).symm
theorem cover8 (i : S1024x7680.Idx) : ∃ t : Fin cfg0.N, (cfg0.win 8).flush t = true ∧ i ∈ ((cfg0.win 8).blk t).view.set := by
  refine ⟨tOne, by decide +kernel, ?_⟩
  have e : ((cfg0.win 8).blk tOne).view.emb (ix2 (i 0) (i 1) : S1024x7680.Idx) = i := (wemb8 tOne (i 0) (i 1)).trans (eq_ix2 i).symm
  exact Eq.subst (motive := fun j => j ∈ ((cfg0.win 8).blk tOne).view.set) e (((cfg0.win 8).blk tOne).view.emb_mem_set _)
theorem final8_of (G : Vec Ideal S1024x7680 .fp8e5m2) (h : ∀ t, out0_8 (iblk m c 0 t) (iblk m c 1 t) (iblk m c 2 t) (iblk m c 3 t) = G) : (dats m 0 c).arrAt 8 cfg0.N = G :=
  (dats m 0 c).arrAt_eq_of_cover 8 G (fun t _ => (Value.flushed8 m c t).trans ((congrArg ((cfg0.win 8).cut (grid0.coords t)) (h t)).trans (cut8 t G))) cover8
include hx hy hs in
theorem final8 : (dats m 0 c).arrAt 8 cfg0.N = (gDQ (bY m c) : Vec Ideal S1024x7680 .fp8e5m2) :=
  final8_of m c _ fun t => by
    rw [iblk0_eq m c t, iblk1_eq m c t, iblk2_eq m c t, iblk3_eq m c t]
    exact o8 _ _ _ _ hx hy hs
theorem cut9 (t : Fin cfg0.N) (B : Vec Ideal S1x7680 .f32) : (cfg0.win 9).cut (grid0.coords t) B = ((cfg0.win 9).blk t).view.read (Elt Ideal) B := by
  funext (y : S1x7680.Idx)
  obtain ⟨r, q, rfl⟩ : ∃ (r : Fin 1) (q : Fin 7680), y = ix2 r q := ⟨y 0, y 1, eq_ix2 y⟩
  show B (ix2 r q) = B (((cfg0.win 9).blk t).view.emb (ix2 r q : S1x7680.Idx))
  exact (congrArg B (wemb9 t r q)).symm
theorem cover9 (i : S1x7680.Idx) : ∃ t : Fin cfg0.N, (cfg0.win 9).flush t = true ∧ i ∈ ((cfg0.win 9).blk t).view.set := by
  refine ⟨tOne, by decide +kernel, ?_⟩
  have e : ((cfg0.win 9).blk tOne).view.emb (ix2 (i 0) (i 1) : S1x7680.Idx) = i := (wemb9 tOne (i 0) (i 1)).trans (eq_ix2 i).symm
  exact Eq.subst (motive := fun j => j ∈ ((cfg0.win 9).blk tOne).view.set) e (((cfg0.win 9).blk tOne).view.emb_mem_set _)
theorem final9_of (G : Vec Ideal S1x7680 .f32) (h : ∀ t, out0_9 (iblk m c 0 t) (iblk m c 1 t) (iblk m c 2 t) (iblk m c 3 t) = G) : (dats m 0 c).arrAt 9 cfg0.N = G :=
  (dats m 0 c).arrAt_eq_of_cover 9 G (fun t _ => (Value.flushed9 m c t).trans ((congrArg ((cfg0.win 9).cut (grid0.coords t)) (h t)).trans (cut9 t G))) cover9
include hx hy hs in
theorem final9 : (dats m 0 c).arrAt 9 cfg0.N = (gSY (bY m c) : Vec Ideal S1x7680 .f32) :=
  final9_of m c _ fun t => by
    rw [iblk0_eq m c t, iblk1_eq m c t, iblk2_eq m c t, iblk3_eq m c t]
    exact o9 _ _ _ _ hx hy hs
theorem cut10 (t : Fin cfg0.N) (B : Vec Ideal S7680x1440 .i8) : (cfg0.win 10).cut (grid0.coords t) B = ((cfg0.win 10).blk t).view.read (Elt Ideal) B := by
  funext (y : S7680x1440.Idx)
  obtain ⟨r, q, rfl⟩ : ∃ (r : Fin 7680) (q : Fin 1440), y = ix2 r q := ⟨y 0, y 1, eq_ix2 y⟩
  show B (ix2 r q) = B (((cfg0.win 10).blk t).view.emb (ix2 r q : S7680x1440.Idx))
  exact (congrArg B (wemb10 t r q)).symm
theorem cover10 (i : S7680x1440.Idx) : ∃ t : Fin cfg0.N, (cfg0.win 10).flush t = true ∧ i ∈ ((cfg0.win 10).blk t).view.set := by
  refine ⟨tOne, by decide +kernel, ?_⟩
  have e : ((cfg0.win 10).blk tOne).view.emb (ix2 (i 0) (i 1) : S7680x1440.Idx) = i := (wemb10 tOne (i 0) (i 1)).trans (eq_ix2 i).symm
  exact Eq.subst (motive := fun j => j ∈ ((cfg0.win 10).blk tOne).view.set) e (((cfg0.win 10).blk tOne).view.emb_mem_set _)
theorem final10_of (G : Vec Ideal S7680x1440 .i8) (h : ∀ t, out0_10 (iblk m c 0 t) (iblk m c 1 t) (iblk m c 2 t) (iblk m c 3 t) = G) : (dats m 0 c).arrAt 10 cfg0.N = G :=
  (dats m 0 c).arrAt_eq_of_cover 10 G (fun t _ => (Value.flushed10 m c t).trans ((congrArg ((cfg0.win 10).cut (grid0.coords t)) (h t)).trans (cut10 t G))) cover10
include hx hy hs in
theorem final10 : (dats m 0 c).arrAt 10 cfg0.N = (gQP (bW m c) (bS m c) : Vec Ideal S7680x1440 .i8) :=
  final10_of m c _ fun t => by
    rw [iblk0_eq m c t, iblk1_eq m c t, iblk2_eq m c t, iblk3_eq m c t]
    exact o10 _ _ _ _ hx hy hs
end

/-- The two arrays that the host lays out: the arguments' rows in one run. -/
theorem bX_eq : bX m c = shapeCast S1024x2880 (m ((c : Thread nD τ).loc main_arg0)) shapeCasts_S2x512x2880_S1024x2880 := by
  rfl
theorem bY_eq : bY m c = shapeCast S1024x7680 (m ((c : Thread nD τ).loc main_arg1)) shapeCasts_S2x512x7680_S1024x7680 := by
  rfl

end Cert.ReferenceIdeal.Hand

end
-- ==== Proof.Pre.lean ====
/- What the precondition says of the launch arrays: every column of the two inputs is tame, and no scale is zero. -/
module

public import proofs.«01_k».proof.Proof.Scalars
public import proofs.«01_k».proof.Pre_tame
public import Idealize.ShloMosaic.Lib.ReduceAll

@[expose] public section

set_option maxRecDepth 16384

noncomputable section

namespace Cert.Pre_tame.Hand

open Cert.Quant Cert.KernelIdeal.Hand
open Idealize.ShloMosaic Idealize.ShloMosaic.TcCoe Idealize.ShloMosaic.Tactic

/-- A flattened row is a row of one batch. -/
theorem rs_batch {m : ℕ} (h : (⟨3, ![2, 512, m]⟩ : Shape).ShapeCasts ⟨2, ![1024, m]⟩) (k : Fin 1024) (c : Fin m) :
    Shape.reshapeEquiv h (ix2 k c) = ix3 ⟨k.val / 512, by omega⟩ ⟨k.val % 512, by omega⟩ c := by
  refine Shape.reshapeEquiv_eq_of_rowMajor h ?_
  rw [Shape.rowMajor_val_two, Shape.rowMajor_val_three]
  show (k.val / 512 * 512 + k.val % 512) * m + c.val = k.val * m + c.val
  congr 2
  omega

/-- A column's greatest magnitude over the batches is that of the flattened rows. -/
theorem max3 {m : ℕ} (x : FVec Ideal ⟨3, ![2, 512, m]⟩ .bf16) (hl : FTy.bits .bf16 < FTy.bits .f32) {u : Shape} (hu : 0 < u.numel)
    (h : (⟨3, ![2, 512, m]⟩ : Shape).ReducesTo [0, 1] ⟨1, ![m]⟩) (hs : (⟨3, ![2, 512, m]⟩ : Shape).ShapeCasts ⟨2, ![1024, m]⟩) (c : Fin m) :
    Host.reduce FloatOps.maximumf (Host.absf (extf .f32 x hl)) (constant (F := Ideal) u .f32 0xFF800000#32) h hu (ix1 c)
      = colMax (Ideal.ofBits .bf16 0xFF80#16) (shapeCast ⟨2, ![1024, m]⟩ x hs) c := by
  pointwise [colMax, rs_batch]
  have hd : ∀ i : (⟨3, ![2, 512, m]⟩ : Shape).Idx, h.drop i = ix1 c ↔ i 2 = c := by
    intro i
    have e : (h.drop i 0).val = (i 2).val := h.drop_apply_val_of_eq i 0 2 Nat.zero_lt_one rfl
    constructor
    · intro he
      apply Fin.ext
      rw [← e, he]
      rfl
    · intro he
      funext b
      match b with
      | ⟨0, _⟩ => exact Fin.ext (e.trans (congrArg Fin.val he))
  refine eq_of_forall_ge_iff fun z => ?_
  rw [Finset.fold_max_le, Finset.fold_max_le, bot16, bot32]
  refine and_congr_right fun _ => ?_
  constructor
  · intro H k _
    exact H (ix3 ⟨k.val / 512, by omega⟩ ⟨k.val % 512, by omega⟩ c) (Finset.mem_filter.2 ⟨Finset.mem_univ _, (hd _).2 rfl⟩)
  · intro H i hi
    have hc : i 2 = c := (hd i).1 (Finset.mem_filter.1 hi).2
    have h0 : (i 0).val < 2 := (i 0).isLt
    have h1 : (i 1).val < 512 := (i 1).isLt
    have e : ix3 (⟨(512 * (i 0).val + (i 1).val) / 512, by omega⟩ : Fin 2) (⟨(512 * (i 0).val + (i 1).val) % 512, by omega⟩ : Fin 512) c = i := by
      funext b
      match b with
      | ⟨0, _⟩ => exact Fin.ext (by show (512 * (i 0).val + (i 1).val) / 512 = (i 0).val; omega)
      | ⟨1, _⟩ => exact Fin.ext (by show (512 * (i 0).val + (i 1).val) % 512 = (i 1).val; omega)
      | ⟨2, _⟩ => exact hc.symm
    have := H ⟨512 * (i 0).val + (i 1).val, by omega⟩ (Finset.mem_univ _)
    simp only [] at this
    rw [e] at this
    exact this

theorem and_one (a b : BitVec 1) (h : IntOp.andi a b = 1#1) : a = 1#1 ∧ b = 1#1 := by
  revert a b; decide
theorem or_one (a b : BitVec 1) (h : IntOp.ori a b = 1#1) : a = 1#1 ∨ b = 1#1 := by
  revert a b; decide

/-- What the precondition tests of a column's greatest magnitude. -/
def bit (cst : BitVec 32) (a : Ideal .f32) : BitVec 1 :=
  IntOp.ori (Scalar.cmpf .oeq a (Scalar.ofBits .f32 0x00000000#32))
    (IntOp.andi (Scalar.cmpf .oge (Scalar.mulf a (Scalar.ofBits .f32 cst)) (Scalar.ofBits .f32 0x00800000#32)) (Scalar.cmpf .ole a (Scalar.ofBits .f32 0x7F7F0000#32)))
theorem bit_one (cst : BitVec 32) (a : EReal) (h : bit cst a = 1#1) : Tame cst a := by
  rcases or_one _ _ h with h | h
  · left
    have h' : Ideal.cmp .oeq a (Scalar.ofBits .f32 0x00000000#32 : Ideal .f32) = 1#1 := h
    rw [c0] at h'
    by_contra hne
    exact absurd ((oeq_not hne).symm.trans h') (by decide)
  · right
    obtain ⟨h1, h2⟩ := and_one _ _ h
    constructor
    · by_contra hne
      exact absurd ((oge_not hne).symm.trans h1) (by decide)
    · by_contra hne
      exact absurd ((ole_not hne).symm.trans h2) (by decide)

variable [Cert.Pre_tame.Facts]
variable (x : FVec Ideal S2x512x2880 .bf16) (y : FVec Ideal S2x512x7680 .bf16) (w : FVec Ideal S7680x2880 .f32) (s : FVec Ideal S7680x90 .f32)

instance : Subsingleton S_.Idx := ⟨fun a b => funext fun i => Fin.elim0 i⟩

/-- The precondition, read. -/
theorem tame_of (h : Cert.Pre_tame.fn (F := Ideal) x y w s = fun _ => 1#1)
    (hx : S2x512x2880.ShapeCasts ⟨2, ![1024, 2880]⟩) (hy : S2x512x7680.ShapeCasts ⟨2, ![1024, 7680]⟩) :
    (∀ c, Tame mx (colMax (Ideal.ofBits .bf16 0xFF80#16) (shapeCast ⟨2, ![1024, 2880]⟩ x hx) c))
    ∧ (∀ c, Tame my (colMax (Ideal.ofBits .bf16 0xFF80#16) (shapeCast ⟨2, ![1024, 7680]⟩ y hy) c))
    ∧ ∀ i, (s i : EReal) ≠ 0 := by
  have h0 : IntOp.andi (IntOp.andi _ _) _ = 1#1 := congrFun h (fun i => Fin.elim0 i)
  obtain ⟨h12, h3⟩ := and_one _ _ h0
  obtain ⟨h1, h2⟩ := and_one _ _ h12
  refine ⟨fun c => ?_, fun c => ?_, fun i => ?_⟩
  · have e : bit mx (Host.reduce FloatOps.maximumf (Host.absf (extf .f32 x Facts.bitsLt_bf16_f32)) (constant (F := Ideal) S_ .f32 0xFF800000#32)
      Facts.reducesTo_S2x512x2880_S2880_d0_1 Facts.h_S_ (ix1 c)) = 1#1 := Host.reduce_andi_all _ _ _ _ _ h1 (ix1 c)
    rw [max3 x _ _ _ hx] at e
    exact bit_one _ _ e
  · have e : bit my (Host.reduce FloatOps.maximumf (Host.absf (extf .f32 y Facts.bitsLt_bf16_f32)) (constant (F := Ideal) S_ .f32 0xFF800000#32)
      Facts.reducesTo_S2x512x7680_S7680_d0_1 Facts.h_S_ (ix1 c)) = 1#1 := Host.reduce_andi_all _ _ _ _ _ h2 (ix1 c)
    rw [max3 y _ _ _ hy] at e
    exact bit_one _ _ e
  · have e : Ideal.cmp .une (s i) (Scalar.ofBits .f32 0x00000000#32 : Ideal .f32) = 1#1 := Host.reduce_andi_all _ _ _ _ _ h3 i
    rw [c0] at e
    intro hz
    rw [hz] at e
    exact absurd e (by simp [Ideal.cmp])

end Cert.Pre_tame.Hand

end
-- ==== Proof.Equal.lean ====
/- The kernel and the reference end with the same seven results, whatever tame arrays they start from. -/
module

public import proofs.«01_k».proof.Defs
public import proofs.«01_k».proof.Proof.Final
public import proofs.«01_k».proof.Proof.RefFinal
public import proofs.«01_k».proof.Proof.Pre
public import proofs.«01_k».proof.Proof.Gen.Pre_tame

@[expose] public section

set_option maxRecDepth 16384

noncomputable section

namespace Cert.Proof

open Cert.Quant Cert.KernelIdeal.Hand
open Cert.ReferenceIdeal.Hand (bX bY bW bS bX_eq bY_eq final4 final5 final6 final7 final8 final9 final10)
open Idealize.ShloMosaic Idealize.ShloMosaic.TcCoe Idealize.SL.Sem

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The programs' memories hold the same arguments on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable (h : Agree m m' c)
include h
/-- Then the arrays that their calls read are the same. -/
theorem sameX : bX m' c = aX m c := by
  rw [bX_eq, h.1]; exact (aX_eq m c).symm
theorem sameY : bY m' c = aY m c := by
  rw [bY_eq, h.2.1]; exact (aY_eq m c).symm
theorem sameW : bW m' c = aW m c :=
  (Cert.ReferenceIdeal.Gen.V_main_arg2 m' c).trans (h.2.2.1.trans (Cert.KernelIdeal.Gen.V_main_arg2 m c).symm)
theorem sameS : bS m' c = aS m c :=
  (Cert.ReferenceIdeal.Gen.V_main_arg3 m' c).trans (h.2.2.2.trans (Cert.KernelIdeal.Gen.V_main_arg3 m c).symm)
end

/-- The precondition of the arrays that the kernel's call reads. -/
structure Fit (m : (ℓ : Loc Cert.KernelIdeal.nD Cert.KernelIdeal.τ Cert.KernelIdeal.sig) → Buf (Elt Ideal) ℓ) (c : Dev Cert.KernelIdeal.nD) : Prop where
  x : ∀ q, Tame mx (colMax (Ideal.ofBits .bf16 0xFF80#16) (aX m c) q)
  y : ∀ q, Tame my (colMax (Ideal.ofBits .bf16 0xFF80#16) (aY m c) q)
  s : ∀ i, (aS m c i : EReal) ≠ 0

theorem fit (m : (ℓ : Loc Cert.KernelIdeal.nD Cert.KernelIdeal.τ Cert.KernelIdeal.sig) → Buf (Elt Ideal) ℓ) (hp : Cert.Pre_KernelIdeal_tame m) (c : Dev Cert.KernelIdeal.nD) : Fit m c := by
  obtain ⟨h1, h2, h3⟩ := Cert.Pre_tame.Hand.tame_of _ _ _ _ (hp c) Cert.KernelIdeal.Gen.facts.shapeCasts_S2x512x2880_S1024x2880 Cert.KernelIdeal.Gen.facts.shapeCasts_S2x512x7680_S1024x7680
  refine ⟨?_, ?_, ?_⟩
  · rw [aX_eq]; exact h1
  · rw [aY_eq]; exact h2
  · have e : aS m c = m ((c : Thread Cert.KernelIdeal.nD Cert.KernelIdeal.τ).loc Cert.KernelIdeal.main_arg3) := Cert.KernelIdeal.Gen.V_main_arg3 m c
    rw [e]; exact h3

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (h : Agree m m' c) (f : Fit m c)
include h f

theorem refFit : (∀ q, Tame mx (colMax (Ideal.ofBits .bf16 0xFF80#16) (bX m' c) q)) ∧ (∀ q, Tame my (colMax (Ideal.ofBits .bf16 0xFF80#16) (bY m' c) q)) ∧ ∀ i, (bS m' c i : EReal) ≠ 0 := by
  rw [sameX m m' c h, sameY m m' c h, sameS m m' c h]
  exact ⟨f.x, f.y, f.s⟩

/-- The reference's results, as the kernel's. -/
theorem res0 : (Cert.ReferenceIdeal.Gen.dats m' 0 c).arrAt 4 Cert.ReferenceIdeal.cfg0.N = gDW (aX m c) (aY m c) (aW m c) (aS m c) := by
  obtain ⟨hx, hy, hs⟩ := refFit m m' c h f
  refine (final4 m' c hx hy hs).trans ?_
  rw [sameX m m' c h, sameY m m' c h, sameW m m' c h, sameS m m' c h]
theorem res1 : (Cert.ReferenceIdeal.Gen.dats m' 0 c).arrAt 5 Cert.ReferenceIdeal.cfg0.N = gDS (aX m c) (aY m c) (aW m c) (aS m c) := by
  obtain ⟨hx, hy, hs⟩ := refFit m m' c h f
  refine (final5 m' c hx hy hs).trans ?_
  rw [sameX m m' c h, sameY m m' c h, sameW m m' c h, sameS m m' c h]
theorem res2 : (Cert.ReferenceIdeal.Gen.dats m' 0 c).arrAt 6 Cert.ReferenceIdeal.cfg0.N = bXQ (aX m c) := by
  obtain ⟨hx, hy, hs⟩ := refFit m m' c h f
  refine (final6 m' c hx hy hs).trans ?_
  rw [sameX m m' c h]
theorem res3 : (Cert.ReferenceIdeal.Gen.dats m' 0 c).arrAt 7 Cert.ReferenceIdeal.cfg0.N = bSX (aX m c) := by
  obtain ⟨hx, hy, hs⟩ := refFit m m' c h f
  refine (final7 m' c hx hy hs).trans ?_
  rw [sameX m m' c h]
theorem res4 : (Cert.ReferenceIdeal.Gen.dats m' 0 c).arrAt 8 Cert.ReferenceIdeal.cfg0.N = gDQ (aY m c) := by
  obtain ⟨hx, hy, hs⟩ := refFit m m' c h f
  refine (final8 m' c hx hy hs).trans ?_
  rw [sameY m m' c h]
theorem res5 : (Cert.ReferenceIdeal.Gen.dats m' 0 c).arrAt 9 Cert.ReferenceIdeal.cfg0.N = gSY (aY m c) := by
  obtain ⟨hx, hy, hs⟩ := refFit m m' c h f
  refine (final9 m' c hx hy hs).trans ?_
  rw [sameY m m' c h]
theorem res6 : (Cert.ReferenceIdeal.Gen.dats m' 0 c).arrAt 10 Cert.ReferenceIdeal.cfg0.N = gQP (aW m c) (aS m c) := by
  obtain ⟨hx, hy, hs⟩ := refFit m m' c h f
  refine (final10 m' c hx hy hs).trans ?_
  rw [sameW m m' c h, sameS m m' c h]
end

/-- The seven results are equal. -/
theorem equal : Cert.algebraic_KernelIdeal_ReferenceIdeal_pre_tame := by
  intro m g m' g' hp ha
  refine ⟨fun c => gDW (aX m c) (aY m c) (aW m c) (aS m c), fun c => gDS (aX m c) (aY m c) (aW m c) (aS m c), fun c => bXQ (aX m c), fun c => bSX (aX m c),
    fun c => gDQ (aY m c), fun c => gSY (aY m c), fun c => gQP (aW m c) (aS m c), run_value m g, ?_⟩
  refine (θ_run (Cert.ReferenceIdeal.defs (F := Ideal)) _ _).mono (fun r h c => ?_) (Cert.ReferenceIdeal.Value.run_blocks m' g')
  have hf := fit m hp c
  have hc := ha c
  obtain ⟨h0, h1, h2, h3, h4, h5, h6, hk⟩ := h c
  exact ⟨h0.trans (res0 m m' c hc hf), h1.trans (res1 m m' c hc hf), h2.trans (res2 m m' c hc hf), h3.trans (res3 m m' c hc hf),
    h4.trans (res4 m m' c hc hf), h5.trans (res5 m m' c hc hf), h6.trans (res6 m m' c hc hf), hk⟩

end Cert.Proof

end
-- ==== Proof.lean ====
/- The claims together: the three programs' frames, the idealization, and the equality of all seven results. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_tame
public import proofs.«01_k».proof.Proof.Frame
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_tame.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  equal⟩

end Cert.Proof

end
